-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_KernelIdeal_in_domain [hPre_in_domain : Cert.Pre_in_domain.Facts] (m : (ℓ : Loc Cert.KernelIdeal.nD Cert.KernelIdeal.τ Cert.KernelIdeal.sig) → Buf (Elt Ideal) ℓ) : Prop :=
  ∀ c : Dev Cert.KernelIdeal.nD,
    (Cert.Pre_in_domain.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_domain [hPre_in_domain : Cert.Pre_in_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_domain.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_in_domain [hKernelIdeal : Cert.KernelIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_domain m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_in_domain [hReferenceIdeal : Cert.ReferenceIdeal.Facts] [hPre_in_domain : Cert.Pre_in_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_domain m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal_pre_in_domain [hKernelIdeal : Cert.KernelIdeal.Facts] [hReferenceIdeal : Cert.ReferenceIdeal.Facts] [hPre_in_domain : Cert.Pre_in_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_domain m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_in_range : Cert.Pre_in_range.Facts) (hPre_in_domain : Cert.Pre_in_domain.Facts),
    quiescent_Kernel (hKernel := hKernel) (hPre_in_range := hPre_in_range)
    ∧ quiescent_KernelIdeal (hKernelIdeal := hKernelIdeal) (hPre_in_range := hPre_in_range)
    ∧ quiescent_KernelIdeal_pre_in_domain (hKernelIdeal := hKernelIdeal) (hPre_in_domain := hPre_in_domain)
    ∧ quiescent_ReferenceIdeal (hReferenceIdeal := hReferenceIdeal)
    ∧ quiescent_ReferenceIdeal_pre_in_domain (hReferenceIdeal := hReferenceIdeal) (hPre_in_domain := hPre_in_domain)
    ∧ preserves_Kernel_KernelIdeal
    ∧ algebraic_KernelIdeal_ReferenceIdeal_pre_in_domain (hKernelIdeal := hKernelIdeal) (hReferenceIdeal := hReferenceIdeal) (hPre_in_domain := hPre_in_domain)
-- ==== Pre_in_domain.lean ====
abbrev S4x1024x4096 : Shape := ⟨3, ![4, 1024, 4096]⟩
abbrev S4x4096 : Shape := ⟨2, ![4, 4096]⟩
abbrev S1024 : Shape := ⟨1, ![1024]⟩
abbrev S10 : Shape := ⟨1, ![10]⟩
abbrev S_ : Shape := ⟨0, ![]⟩
abbrev S1024x1 : Shape := ⟨2, ![1024, 1]⟩
abbrev S1x10 : Shape := ⟨2, ![1, 10]⟩
abbrev S1024x10 : Shape := ⟨2, ![1024, 10]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel
  bcast_S_S4x1024x4096 : S_.BroadcastsInDim S4x1024x4096 (![] : Fin 0 → Fin S4x1024x4096.rank)
  reducesTo_S4x1024x4096_S_d0_1_2 : S4x1024x4096.ReducesTo [0, 1, 2] S_
  bcast_S1024_S1024x1_0 : S1024.BroadcastsInDim S1024x1 (![0] : Fin 1 → Fin S1024x1.rank)
  bcast_S10_S1x10_1 : S10.BroadcastsInDim S1x10 (![1] : Fin 1 → Fin S1x10.rank)
  bcast_S1024x1_S1024x10_0_1 : S1024x1.BroadcastsInDim S1024x10 (![0, 1] : Fin 2 → Fin S1024x10.rank)
  bcast_S1x10_S1024x10_0_1 : S1x10.BroadcastsInDim S1024x10 (![0, 1] : Fin 2 → Fin S1024x10.rank)
  bcast_S_S1024x10 : S_.BroadcastsInDim S1024x10 (![] : Fin 0 → Fin S1024x10.rank)
  reducesTo_S1024x10_S_d0_1 : S1024x10.ReducesTo [0, 1] S_

variable [Facts]

def fn_part1 {F : FTy → Type} [FloatOps F] (main_v6 : IVec S_ 1) (main_v10 : IVec S_ 1) (main_v15 : FVec F S1024x10 .f32) (main_v16 : FVec F S1024x10 .f32) : IVec S_ 1 :=
  let main_v17 : IVec S1024x10 1 := cmpf .oge main_v15 main_v16
  let main_c_5 : IVec S_ 1 := constantI S_ 1 1#1
  let main_v18 : IVec S_ 1 := (fun x v => Host.reduce IntOp.andi x v reducesTo_S1024x10_S_d0_1 h_S_) main_v17 main_c_5
  let main_v19 : IVec S_ 1 := andi main_v6 main_v10
  let main_v20 : IVec S_ 1 := andi main_v19 main_v18
  main_v20

def fn {F : FTy → Type} [FloatOps F] (main_arg0 : FVec F S4x1024x4096 .f32) (main_arg1 : IVec S4x4096 32) (main_arg2 : FVec F S1024 .f32) (main_arg3 : FVec F S10 .f32) : IVec S_ 1 :=
  let main_c : IVec S_ 32 := constantI S_ 32 0#32
  let main_v0 : IVec S4x4096 32 := broadcastInDim S4x4096 ![] bcast_S_S4x4096 main_c
  let main_v1 : IVec S4x4096 1 := cmpi .sge main_arg1 main_v0
  let main_c_0 : IVec S_ 1 := constantI S_ 1 1#1
  let main_v2 : IVec S_ 1 := (fun x v => Host.reduce IntOp.andi x v reducesTo_S4x4096_S_d0_1 h_S_) main_v1 main_c_0
  let main_c_1 : IVec S_ 32 := constantI S_ 32 1024#32
  let main_v3 : IVec S4x4096 32 := broadcastInDim S4x4096 ![] bcast_S_S4x4096 main_c_1
  let main_v4 : IVec S4x4096 1 := cmpi .slt main_arg1 main_v3
  let main_c_2 : IVec S_ 1 := constantI S_ 1 1#1
  let main_v5 : IVec S_ 1 := (fun x v => Host.reduce IntOp.andi x v reducesTo_S4x4096_S_d0_1 h_S_) main_v4 main_c_2
  let main_v6 : IVec S_ 1 := andi main_v2 main_v5
  let main_v7 : FVec F S4x1024x4096 .f32 := Host.absf main_arg0
  let main_cst : FVec F S_ .f32 := constant S_ .f32 0x7F800000#32
  let main_v8 : FVec F S4x1024x4096 .f32 := broadcastInDim S4x1024x4096 ![] bcast_S_S4x1024x4096 main_cst
  let main_v9 : IVec S4x1024x4096 1 := cmpf .olt main_v7 main_v8
  let main_c_3 : IVec S_ 1 := constantI S_ 1 1#1
  let main_v10 : IVec S_ 1 := (fun x v => Host.reduce IntOp.andi x v reducesTo_S4x1024x4096_S_d0_1_2 h_S_) main_v9 main_c_3
  let main_v11 : FVec F S1024x1 .f32 := broadcastInDim S1024x1 ![0] bcast_S1024_S1024x1_0 main_arg2
  let main_v12 : FVec F S1x10 .f32 := broadcastInDim S1x10 ![1] bcast_S10_S1x10_1 main_arg3
  let main_v13 : FVec F S1024x10 .f32 := broadcastInDim S1024x10 ![0, 1] bcast_S1024x1_S1024x10_0_1 main_v11
  let main_v14 : FVec F S1024x10 .f32 := broadcastInDim S1024x10 ![0, 1] bcast_S1x10_S1024x10_0_1 main_v12
  let main_v15 : FVec F S1024x10 .f32 := mulf main_v13 main_v14
  let main_cst_4 : FVec F S_ .f32 := constant S_ .f32 0x00000000#32
  let main_v16 : FVec F S1024x10 .f32 := broadcastInDim S1024x10 ![] bcast_S_S1024x10 main_cst_4
  fn_part1 (F := F) main_v6 main_v10 main_v15 main_v16
-- ==== Pre_in_range.lean ====
abbrev S4x1024x4096 : Shape := ⟨3, ![4, 1024, 4096]⟩
abbrev S4x4096 : Shape := ⟨2, ![4, 4096]⟩
abbrev S1024 : Shape := ⟨1, ![1024]⟩
abbrev S10 : Shape := ⟨1, ![10]⟩
abbrev S_ : Shape := ⟨0, ![]⟩

class Facts : Prop where
  bcast_S_S4x4096 : S_.BroadcastsInDim S4x4096 (![] : Fin 0 → Fin S4x4096.rank)
  reducesTo_S4x4096_S_d0_1 : S4x4096.ReducesTo [0, 1] S_
  h_S_ : 0 < S_.numel

variable [Facts]

def fn {F : FTy → Type} [FloatOps F] (main_arg0 : FVec F S4x1024x4096 .f32) (main_arg1 : IVec S4x4096 32) (main_arg2 : FVec F S1024 .f32) (main_arg3 : FVec F S10 .f32) : IVec S_ 1 :=
  let main_c : IVec S_ 32 := constantI S_ 32 0#32
  let main_v0 : IVec S4x4096 32 := broadcastInDim S4x4096 ![] bcast_S_S4x4096 main_c
  let main_v1 : IVec S4x4096 1 := cmpi .sge main_arg1 main_v0
  let main_c_0 : IVec S_ 1 := constantI S_ 1 1#1
  let main_v2 : IVec S_ 1 := (fun x v => Host.reduce IntOp.andi x v reducesTo_S4x4096_S_d0_1 h_S_) main_v1 main_c_0
  let main_c_1 : IVec S_ 32 := constantI S_ 32 1024#32
  let main_v3 : IVec S4x4096 32 := broadcastInDim S4x4096 ![] bcast_S_S4x4096 main_c_1
  let main_v4 : IVec S4x4096 1 := cmpi .slt main_arg1 main_v3
  let main_c_2 : IVec S_ 1 := constantI S_ 1 1#1
  let main_v5 : IVec S_ 1 := (fun x v => Host.reduce IntOp.andi x v reducesTo_S4x4096_S_d0_1 h_S_) main_v4 main_c_2
  let main_v6 : IVec S_ 1 := andi main_v2 main_v5
  main_v6
-- ==== Kernel.lean ====
abbrev S4x1024x4096 : Shape := ⟨3, ![4, 1024, 4096]⟩
abbrev S4x4096 : Shape := ⟨2, ![4, 4096]⟩
abbrev S1024 : Shape := ⟨1, ![1024]⟩
abbrev S10 : Shape := ⟨1, ![10]⟩
abbrev S4x1x4096 : Shape := ⟨3, ![4, 1, 4096]⟩
abbrev S16384 : Shape := ⟨1, ![16384]⟩
abbrev S512 : Shape := ⟨1, ![512]⟩
abbrev S_ : Shape := ⟨0, ![]⟩
abbrev S1x1024x1024 : Shape := ⟨3, ![1, 1024, 1024]⟩
abbrev S1x1x1024 : Shape := ⟨3, ![1, 1, 1024]⟩
abbrev S1024x1024 : Shape := ⟨2, ![1024, 1024]⟩
abbrev S1x1024 : Shape := ⟨2, ![1, 1024]⟩
abbrev S1x16384 : Shape := ⟨2, ![1, 16384]⟩
abbrev S10x1 : Shape := ⟨2, ![10, 1]⟩
abbrev S1x1 : Shape := ⟨2, ![1, 1]⟩
abbrev S10x16384 : Shape := ⟨2, ![10, 16384]⟩
abbrev S1 : Shape := ⟨1, ![1]⟩

abbrev nBuf : Table → Nat
  | .hbm => 17
  | .local .tc .vmem => 13
  | .local .scVector .vmem => 2
  | _ => 0

abbrev bufTy : (tb : Table) → Fin (nBuf tb) → BufTy
  | .hbm, ⟨0, _⟩ => ⟨S4x1024x4096, .f32⟩
  | .hbm, ⟨1, _⟩ => ⟨S4x4096, .i32⟩
  | .hbm, ⟨2, _⟩ => ⟨S1024, .f32⟩
  | .hbm, ⟨3, _⟩ => ⟨S10, .f32⟩
  | .hbm, ⟨4, _⟩ => ⟨S4x1x4096, .i32⟩
  | .hbm, ⟨5, _⟩ => ⟨S16384, .i32⟩
  | .hbm, ⟨6, _⟩ => ⟨S16384, .f32⟩
  | .hbm, ⟨7, _⟩ => ⟨S4x1x4096, .f32⟩
  | .hbm, ⟨8, _⟩ => ⟨S4x1x4096, .f32⟩
  | .hbm, ⟨9, _⟩ => ⟨S1x16384, .f32⟩
  | .hbm, ⟨10, _⟩ => ⟨S1x16384, .f32⟩
  | .hbm, ⟨11, _⟩ => ⟨S1x16384, .f32⟩
  | .hbm, ⟨12, _⟩ => ⟨S10x1, .f32⟩
  | .hbm, ⟨13, _⟩ => ⟨S1x1, .f32⟩
  | .hbm, ⟨14, _⟩ => ⟨S_, .f32⟩
  | .hbm, ⟨15, _⟩ => ⟨S_, .f32⟩
  | .hbm, ⟨16, _⟩ => ⟨S_, .f32⟩
  | .local .tc .vmem, ⟨0, _⟩ => ⟨S1x1024x1024, .f32⟩
  | .local .tc .vmem, ⟨1, _⟩ => ⟨S1x1024x1024, .f32⟩
  | .local .tc .vmem, ⟨2, _⟩ => ⟨S1x1x1024, .i32⟩
  | .local .tc .vmem, ⟨3, _⟩ => ⟨S1x1x1024, .i32⟩
  | .local .tc .vmem, ⟨4, _⟩ => ⟨S1x1x1024, .f32⟩
  | .local .tc .vmem, ⟨5, _⟩ => ⟨S1x1x1024, .f32⟩
  | .local .tc .vmem, ⟨6, _⟩ => ⟨S1x1x1024, .f32⟩
  | .local .tc .vmem, ⟨7, _⟩ => ⟨S1x1x1024, .f32⟩
  | .local .tc .vmem, ⟨8, _⟩ => ⟨S1x16384, .f32⟩
  | .local .tc .vmem, ⟨9, _⟩ => ⟨S1x16384, .f32⟩
  | .local .tc .vmem, ⟨10, _⟩ => ⟨S1x16384, .f32⟩
  | .local .tc .vmem, ⟨11, _⟩ => ⟨S10x1, .f32⟩
  | .local .tc .vmem, ⟨12, _⟩ => ⟨S1x1, .f32⟩
  | .local .scVector .vmem, ⟨0, _⟩ => ⟨S512, .i32⟩
  | .local .scVector .vmem, ⟨1, _⟩ => ⟨S512, .f32⟩
  | _, _ => ⟨S4x1024x4096, .f32⟩

abbrev bufScoped : (cs : CoreSpace) → Fin (nBuf (.local .tc cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 4 → Bool
  | ⟨0, _⟩ => false
  | ⟨1, _⟩ => false
  | ⟨2, _⟩ => false
  | ⟨3, _⟩ => false
  | _ => false

abbrev dmaSemScoped : Fin 16 → Bool
  | ⟨0, _⟩ => false
  | ⟨1, _⟩ => false
  | ⟨2, _⟩ => false
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTables nBuf rfl bufTy 4 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst : Ref sig .tc := ⟨.hbm, 15, rfl⟩
abbrev main_v10 : Ref sig .tc := ⟨.hbm, 16, rfl⟩
abbrev main_arg2_scv : Ref sig .scVector := ⟨.hbm, 2, rfl⟩
abbrev main_v1_scv : Ref sig .scVector := ⟨.hbm, 5, rfl⟩
abbrev main_v2_scv : Ref sig .scVector := ⟨.hbm, 6, rfl⟩
abbrev cc1_stg0_0 : Ref sig .tc := ⟨.vmem, 0, rfl⟩
abbrev cc1_stg0_1 : Ref sig .tc := ⟨.vmem, 1, rfl⟩
abbrev cc1_stg1_0 : Ref sig .tc := ⟨.vmem, 2, rfl⟩
abbrev cc1_stg1_1 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc2_stg0_0 : Ref sig .tc := ⟨.vmem, 8, rfl⟩
abbrev cc2_stg1_0 : Ref sig .tc := ⟨.vmem, 9, rfl⟩
abbrev cc2_stg2_0 : Ref sig .tc := ⟨.vmem, 10, rfl⟩
abbrev cc2_stg3_0 : Ref sig .tc := ⟨.vmem, 11, rfl⟩
abbrev cc2_stg4_0 : Ref sig .tc := ⟨.vmem, 12, rfl⟩
abbrev cc0_scratch0 : Ref sig .scVector := ⟨.vmem, 0, rfl⟩
abbrev cc0_scratch1 : Ref sig .scVector := ⟨.vmem, 1, rfl⟩
abbrev cc1_sem0_0 : DmaSem sig := 3
abbrev cc1_sem0_1 : DmaSem sig := 4
abbrev cc1_sem1_0 : DmaSem sig := 5
abbrev cc1_sem1_1 : DmaSem sig := 6
abbrev cc1_sem2_0 : DmaSem sig := 7
abbrev cc1_sem2_1 : DmaSem sig := 8
abbrev cc1_sem3_0 : DmaSem sig := 9
abbrev cc1_sem3_1 : DmaSem sig := 10
abbrev cc2_sem0_0 : DmaSem sig := 11
abbrev cc2_sem1_0 : DmaSem sig := 12
abbrev cc2_sem2_0 : DmaSem sig := 13
abbrev cc2_sem3_0 : DmaSem sig := 14
abbrev cc2_sem4_0 : DmaSem sig := 15
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v2 : BitVec 32 := Scalar.muli v1 c512_i32
  ![v2.toNat]
abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x1024 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1x1x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := .none

abbrev stage2_0 : Fin 1 → Memref sig .tc .vmem S1x16384 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))

abbrev stage2_1 : Fin 1 → Memref sig .tc .vmem S1x16384 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))

abbrev stage2_2 : Fin 1 → Memref sig .tc .vmem S1x16384 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))

abbrev stage2_3 : Fin 1 → Memref sig .tc .vmem S10x1 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))

abbrev stage2_4 : Fin 1 → Memref sig .tc .vmem S1x1 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))

abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S4x1024x4096 : Shape := ⟨3, ![4, 1024, 4096]⟩
abbrev S4x4096 : Shape := ⟨2, ![4, 4096]⟩
abbrev S1024 : Shape := ⟨1, ![1024]⟩
abbrev S10 : Shape := ⟨1, ![10]⟩
abbrev S_ : Shape := ⟨0, ![]⟩
abbrev S4x1x4096 : Shape := ⟨3, ![4, 1, 4096]⟩
abbrev S4x1x4096x1 : Shape := ⟨4, ![4, 1, 4096, 1]⟩
abbrev S1 : Shape := ⟨1, ![1]⟩
abbrev S1x1x1x1 : Shape := ⟨4, ![1, 1, 1, 1]⟩
abbrev S4x4096x1 : Shape := ⟨3, ![4, 4096, 1]⟩
abbrev S1x1x1024 : Shape := ⟨3, ![1, 1, 1024]⟩
abbrev S4x4096x1024 : Shape := ⟨3, ![4, 4096, 1024]⟩
abbrev S1x1024x1 : Shape := ⟨3, ![1, 1024, 1]⟩

abbrev nBuf : Space → Nat
  | .hbm => 111
  | .vmem => 0
  | .smem => 0
  | _ => 0

abbrev bufTy : (tb : Table) → Fin (tcTables nBuf tb) → BufTy
  | .hbm, ⟨0, _⟩ => ⟨S4x1024x4096, .f32⟩
  | .hbm, ⟨1, _⟩ => ⟨S4x4096, .i32⟩
  | .hbm, ⟨2, _⟩ => ⟨S1024, .f32⟩
  | .hbm, ⟨3, _⟩ => ⟨S10, .f32⟩
  | .hbm, ⟨4, _⟩ => ⟨S_, .f32⟩
  | .hbm, ⟨5, _⟩ => ⟨S4x4096, .f32⟩
  | .hbm, ⟨6, _⟩ => ⟨S_, .f32⟩
  | .hbm, ⟨7, _⟩ => ⟨S4x4096, .f32⟩
  | .hbm, ⟨8, _⟩ => ⟨S4x4096, .f32⟩
  | .hbm, ⟨9, _⟩ => ⟨S4x1x4096, .f32⟩
  | .hbm, ⟨10, _⟩ => ⟨S4x1024x4096, .f32⟩
  | .hbm, ⟨11, _⟩ => ⟨S4x1024x4096, .f32⟩
  | .hbm, ⟨12, _⟩ => ⟨S4x1024x4096, .f32⟩
  | .hbm, ⟨13, _⟩ => ⟨S_, .f32⟩
  | .hbm, ⟨14, _⟩ => ⟨S4x4096, .f32⟩
  | .hbm, ⟨15, _⟩ => ⟨S4x1x4096, .f32⟩
  | .hbm, ⟨16, _⟩ => ⟨S4x1x4096, .f32⟩
  | .hbm, ⟨17, _⟩ => ⟨S4x1024x4096, .f32⟩
  | .hbm, ⟨18, _⟩ => ⟨S4x1024x4096, .f32⟩
  | .hbm, ⟨19, _⟩ => ⟨S4x1x4096, .i32⟩
  | .hbm, ⟨20, _⟩ => ⟨S_, .i32⟩
  | .hbm, ⟨21, _⟩ => ⟨S4x1x4096, .i32⟩
  | .hbm, ⟨22, _⟩ => ⟨S4x1x4096, .i1⟩
  | .hbm, ⟨23, _⟩ => ⟨S_, .i32⟩
  | .hbm, ⟨24, _⟩ => ⟨S4x1x4096, .i32⟩
  | .hbm, ⟨25, _⟩ => ⟨S4x1x4096, .i32⟩
  | .hbm, ⟨26, _⟩ => ⟨S4x1x4096, .i32⟩
  | .hbm, ⟨27, _⟩ => ⟨S4x1x4096x1, .i32⟩
  | .hbm, ⟨28, _⟩ => ⟨S1, .i32⟩
  | .hbm, ⟨29, _⟩ => ⟨S_, .i32⟩
  | .hbm, ⟨30, _⟩ => ⟨S4x1x4096x1, .i32⟩
  | .hbm, ⟨31, _⟩ => ⟨S4x1x4096x1, .i1⟩
  | .hbm, ⟨32, _⟩ => ⟨S1x1x1x1, .i32⟩
  | .hbm, ⟨33, _⟩ => ⟨S4x1x4096x1, .i32⟩
  | .hbm, ⟨34, _⟩ => ⟨S4x1x4096x1, .i1⟩
  | .hbm, ⟨35, _⟩ => ⟨S4x1x4096x1, .i1⟩
  | .hbm, ⟨36, _⟩ => ⟨S_, .i1⟩
  | .hbm, ⟨37, _⟩ => ⟨S4x1x4096, .i1⟩
  | .hbm, ⟨38, _⟩ => ⟨S4x1x4096, .f32⟩
  | .hbm, ⟨39, _⟩ => ⟨S_, .f32⟩
  | .hbm, ⟨40, _⟩ => ⟨S4x1x4096, .f32⟩
  | .hbm, ⟨41, _⟩ => ⟨S4x1x4096, .f32⟩
  | .hbm, ⟨42, _⟩ => ⟨S4x4096, .f32⟩
  | .hbm, ⟨43, _⟩ => ⟨S4x4096, .f32⟩
  | .hbm, ⟨44, _⟩ => ⟨S4x4096x1, .i32⟩
  | .hbm, ⟨45, _⟩ => ⟨S1x1x1024, .i32⟩
  | .hbm, ⟨46, _⟩ => ⟨S4x4096x1024, .i32⟩
  | .hbm, ⟨47, _⟩ => ⟨S4x4096x1024, .i32⟩
  | .hbm, ⟨48, _⟩ => ⟨S4x4096x1024, .i1⟩
  | .hbm, ⟨49, _⟩ => ⟨S4x4096x1024, .f32⟩
  | .hbm, ⟨50, _⟩ => ⟨S4x1024x4096, .f32⟩
  | .hbm, ⟨51, _⟩ => ⟨S_, .f32⟩
  | .hbm, ⟨52, _⟩ => ⟨S4x4096, .f32⟩
  | .hbm, ⟨53, _⟩ => ⟨S_, .f32⟩
  | .hbm, ⟨54, _⟩ => ⟨S4x4096, .f32⟩
  | .hbm, ⟨55, _⟩ => ⟨S4x4096, .f32⟩
  | .hbm, ⟨56, _⟩ => ⟨S4x1x4096, .f32⟩
  | .hbm, ⟨57, _⟩ => ⟨S4x1024x4096, .f32⟩
  | .hbm, ⟨58, _⟩ => ⟨S4x1024x4096, .f32⟩
  | .hbm, ⟨59, _⟩ => ⟨S4x1024x4096, .f32⟩
  | .hbm, ⟨60, _⟩ => ⟨S_, .f32⟩
  | .hbm, ⟨61, _⟩ => ⟨S4x4096, .f32⟩
  | .hbm, ⟨62, _⟩ => ⟨S4x1x4096, .f32⟩
  | .hbm, ⟨63, _⟩ => ⟨S4x1024x4096, .f32⟩
  | .hbm, ⟨64, _⟩ => ⟨S4x1024x4096, .f32⟩
  | .hbm, ⟨65, _⟩ => ⟨S4x1024x4096, .f32⟩
  | .hbm, ⟨66, _⟩ => ⟨S4x1024x4096, .f32⟩
  | .hbm, ⟨67, _⟩ => ⟨S_, .f32⟩
  | .hbm, ⟨68, _⟩ => ⟨S4x4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S4x4096, .f32⟩
  | .hbm, ⟨73, _⟩ => ⟨S4x4096, .f32⟩
  | .hbm, ⟨74, _⟩ => ⟨S_, .f32⟩
  | .hbm, ⟨75, _⟩ => ⟨S4x4096, .f32⟩
  | .hbm, ⟨76, _⟩ => ⟨S4x4096, .f32⟩
  | .hbm, ⟨77, _⟩ => ⟨S_, .f32⟩
  | .hbm, ⟨78, _⟩ => ⟨S4x4096, .f32⟩
  | .hbm, ⟨79, _⟩ => ⟨S4x4096, .f32⟩
  | .hbm, ⟨80, _⟩ => ⟨S4x1024x4096, .f32⟩
  | .hbm, ⟨81, _⟩ => ⟨S4x1024x4096, .f32⟩
  | .hbm, ⟨82, _⟩ => ⟨S_, .f32⟩
  | .hbm, ⟨83, _⟩ => ⟨S4x4096, .f32⟩
  | .hbm, ⟨84, _⟩ => ⟨S4x4096, .f32⟩
  | .hbm, ⟨85, _⟩ => ⟨S4x4096, .f32⟩
  | .hbm, ⟨86, _⟩ => ⟨S4x4096, .i32⟩
  | .hbm, ⟨87, _⟩ => ⟨S1x1024x1, .f32⟩
  | .hbm, ⟨88, _⟩ => ⟨S4x1024x4096, .f32⟩
  | .hbm, ⟨89, _⟩ => ⟨S4x1024x4096, .f32⟩
  | .hbm, ⟨90, _⟩ => ⟨S_, .f32⟩
  | .hbm, ⟨91, _⟩ => ⟨S4x4096, .f32⟩
  | .hbm, ⟨92, _⟩ => ⟨S_, .i32⟩
  | .hbm, ⟨93, _⟩ => ⟨S4x4096, .i32⟩
  | .hbm, ⟨94, _⟩ => ⟨S4x4096, .i1⟩
  | .hbm, ⟨95, _⟩ => ⟨S_, .i32⟩
  | .hbm, ⟨96, _⟩ => ⟨S4x4096, .i32⟩
  | .hbm, ⟨97, _⟩ => ⟨S4x4096, .i32⟩
  | .hbm, ⟨98, _⟩ => ⟨S4x4096, .i32⟩
  | .hbm, ⟨99, _⟩ => ⟨S4x4096x1, .i32⟩
  | .hbm, ⟨100, _⟩ => ⟨S4x4096, .f32⟩
  | .hbm, ⟨101, _⟩ => ⟨S4x4096, .f32⟩
  | .hbm, ⟨102, _⟩ => ⟨S_, .f32⟩
  | .hbm, ⟨103, _⟩ => ⟨S4x4096, .f32⟩
  | .hbm, ⟨104, _⟩ => ⟨S4x4096, .f32⟩
  | .hbm, ⟨105, _⟩ => ⟨S4x4096, .f32⟩
  | .hbm, ⟨106, _⟩ => ⟨S4x4096, .f32⟩
  | .hbm, ⟨107, _⟩ => ⟨S_, .f32⟩
  | .hbm, ⟨108, _⟩ => ⟨S_, .f32⟩
  | .hbm, ⟨109, _⟩ => ⟨S_, .f32⟩
  | .hbm, ⟨110, _⟩ => ⟨S_, .f32⟩
  | _, _ => ⟨S4x1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_cst : Ref sig .tc := ⟨.hbm, 4, rfl⟩
abbrev main_call0_v0 : Ref sig .tc := ⟨.hbm, 5, rfl⟩
abbrev main_call0_cst_0 : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_v5 : Ref sig .tc := ⟨.hbm, 11, rfl⟩
abbrev main_call0_v6 : Ref sig .tc := ⟨.hbm, 12, rfl⟩
abbrev main_call0_cst_1 : Ref sig .tc := ⟨.hbm, 13, rfl⟩
abbrev main_call0_v7 : Ref sig .tc := ⟨.hbm, 14, rfl⟩
abbrev main_call0_v8 : Ref sig .tc := ⟨.hbm, 15, rfl⟩
abbrev main_call0_v9 : Ref sig .tc := ⟨.hbm, 16, rfl⟩
abbrev main_call0_v10 : Ref sig .tc := ⟨.hbm, 17, rfl⟩
abbrev main_v0 : Ref sig .tc := ⟨.hbm, 18, rfl⟩
abbrev main_v1 : Ref sig .tc := ⟨.hbm, 19, rfl⟩
abbrev main_call1_c : Ref sig .tc := ⟨.hbm, 20, rfl⟩
abbrev main_call1_v0 : Ref sig .tc := ⟨.hbm, 21, rfl⟩
abbrev main_call1_v1 : Ref sig .tc := ⟨.hbm, 22, rfl⟩
abbrev main_call1_c_0 : Ref sig .tc := ⟨.hbm, 23, rfl⟩
abbrev main_call1_v2 : Ref sig .tc := ⟨.hbm, 24, rfl⟩
abbrev main_call1_v3 : Ref sig .tc := ⟨.hbm, 25, rfl⟩
abbrev main_call1_v4 : Ref sig .tc := ⟨.hbm, 26, rfl⟩
abbrev main_call1_v5 : Ref sig .tc := ⟨.hbm, 27, rfl⟩
abbrev main_call1_c_1 : Ref sig .tc := ⟨.hbm, 28, rfl⟩
abbrev main_call1_c_2 : Ref sig .tc := ⟨.hbm, 29, rfl⟩
abbrev main_call1_v6 : Ref sig .tc := ⟨.hbm, 30, rfl⟩
abbrev main_call1_v7 : Ref sig .tc := ⟨.hbm, 31, rfl⟩
abbrev main_call1_v8 : Ref sig .tc := ⟨.hbm, 32, rfl⟩
abbrev main_call1_v9 : Ref sig .tc := ⟨.hbm, 33, rfl⟩
abbrev main_call1_v10 : Ref sig .tc := ⟨.hbm, 34, rfl⟩
abbrev main_call1_v11 : Ref sig .tc := ⟨.hbm, 35, rfl⟩
abbrev main_call1_c_3 : Ref sig .tc := ⟨.hbm, 36, rfl⟩
abbrev main_call1_v12 : Ref sig .tc := ⟨.hbm, 37, rfl⟩
abbrev main_call1_v13 : Ref sig .tc := ⟨.hbm, 38, rfl⟩
abbrev main_call1_cst : Ref sig .tc := ⟨.hbm, 39, rfl⟩
abbrev main_call1_v14 : Ref sig .tc := ⟨.hbm, 40, rfl⟩
abbrev main_v2 : Ref sig .tc := ⟨.hbm, 41, rfl⟩
abbrev main_v3 : Ref sig .tc := ⟨.hbm, 42, rfl⟩
abbrev main_v4 : Ref sig .tc := ⟨.hbm, 43, rfl⟩
abbrev main_call2_v0 : Ref sig .tc := ⟨.hbm, 44, rfl⟩
abbrev main_call2_v1 : Ref sig .tc := ⟨.hbm, 45, rfl⟩
abbrev main_call2_v2 : Ref sig .tc := ⟨.hbm, 46, rfl⟩
abbrev main_call2_v3 : Ref sig .tc := ⟨.hbm, 47, rfl⟩
abbrev main_call2_v4 : Ref sig .tc := ⟨.hbm, 48, rfl⟩
abbrev main_v5 : Ref sig .tc := ⟨.hbm, 49, rfl⟩
abbrev main_v6 : Ref sig .tc := ⟨.hbm, 50, rfl⟩
abbrev main_cst : Ref sig .tc := ⟨.hbm, 51, rfl⟩
abbrev main_v7 : Ref sig .tc := ⟨.hbm, 52, rfl⟩
abbrev main_cst_0 : Ref sig .tc := ⟨.hbm, 53, rfl⟩
abbrev main_v8 : Ref sig .tc := ⟨.hbm, 54, rfl⟩
abbrev main_v9 : Ref sig .tc := ⟨.hbm, 55, rfl⟩
abbrev main_v10 : Ref sig .tc := ⟨.hbm, 56, rfl⟩
abbrev main_v11 : Ref sig .tc := ⟨.hbm, 57, rfl⟩
abbrev main_v12 : Ref sig .tc := ⟨.hbm, 58, rfl⟩
abbrev main_v13 : Ref sig .tc := ⟨.hbm, 59, rfl⟩
abbrev main_cst_1 : Ref sig .tc := ⟨.hbm, 60, rfl⟩
abbrev main_v14 : Ref sig .tc := ⟨.hbm, 61, rfl⟩
abbrev main_v15 : Ref sig .tc := ⟨.hbm, 62, rfl⟩
abbrev main_v16 : Ref sig .tc := ⟨.hbm, 63, rfl⟩
abbrev main_v17 : Ref sig .tc := ⟨.hbm, 64, rfl⟩
abbrev main_v18 : Ref sig .tc := ⟨.hbm, 65, rfl⟩
abbrev main_v19 : Ref sig .tc := ⟨.hbm, 66, rfl⟩
abbrev main_cst_2 : Ref sig .tc := ⟨.hbm, 67, rfl⟩
abbrev main_v20 : Ref sig .tc := ⟨.hbm, 68, rfl⟩
abbrev main_cst_3 : Ref sig .tc := ⟨.hbm, 69, rfl⟩
abbrev main_cst_4 : Ref sig .tc := ⟨.hbm, 70, rfl⟩
abbrev main_call3_v0 : Ref sig .tc := ⟨.hbm, 71, rfl⟩
abbrev main_call3_v1 : Ref sig .tc := ⟨.hbm, 72, rfl⟩
abbrev main_call3_v2 : Ref sig .tc := ⟨.hbm, 73, rfl⟩
abbrev main_call3_v3 : Ref sig .tc := ⟨.hbm, 74, rfl⟩
abbrev main_call3_v4 : Ref sig .tc := ⟨.hbm, 75, rfl⟩
abbrev main_v21 : Ref sig .tc := ⟨.hbm, 76, rfl⟩
abbrev main_cst_5 : Ref sig .tc := ⟨.hbm, 77, rfl⟩
abbrev main_v22 : Ref sig .tc := ⟨.hbm, 78, rfl⟩
abbrev main_v23 : Ref sig .tc := ⟨.hbm, 79, rfl⟩
abbrev main_v24 : Ref sig .tc := ⟨.hbm, 80, rfl⟩
abbrev main_v25 : Ref sig .tc := ⟨.hbm, 81, rfl⟩
abbrev main_cst_6 : Ref sig .tc := ⟨.hbm, 82, rfl⟩
abbrev main_v26 : Ref sig .tc := ⟨.hbm, 83, rfl⟩
abbrev main_v27 : Ref sig .tc := ⟨.hbm, 84, rfl⟩
abbrev main_v28 : Ref sig .tc := ⟨.hbm, 85, rfl⟩
abbrev main_v29 : Ref sig .tc := ⟨.hbm, 86, rfl⟩
abbrev main_v30 : Ref sig .tc := ⟨.hbm, 87, rfl⟩
abbrev main_v31 : Ref sig .tc := ⟨.hbm, 88, rfl⟩
abbrev main_v32 : Ref sig .tc := ⟨.hbm, 89, rfl⟩
abbrev main_cst_7 : Ref sig .tc := ⟨.hbm, 90, rfl⟩
abbrev main_v33 : Ref sig .tc := ⟨.hbm, 91, rfl⟩
abbrev main_c : Ref sig .tc := ⟨.hbm, 92, rfl⟩
abbrev main_v34 : Ref sig .tc := ⟨.hbm, 93, rfl⟩
abbrev main_v35 : Ref sig .tc := ⟨.hbm, 94, rfl⟩
abbrev main_c_8 : Ref sig .tc := ⟨.hbm, 95, rfl⟩
abbrev main_v36 : Ref sig .tc := ⟨.hbm, 96, rfl⟩
abbrev main_v37 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_cst_9 : Ref sig .tc := ⟨.hbm, 102, rfl⟩
abbrev main_v42 : Ref sig .tc := ⟨.hbm, 103, rfl⟩
abbrev main_v43 : Ref sig .tc := ⟨.hbm, 104, rfl⟩
abbrev main_v44 : Ref sig .tc := ⟨.hbm, 105, rfl⟩
abbrev main_v45 : Ref sig .tc := ⟨.hbm, 106, rfl⟩
abbrev main_cst_10 : Ref sig .tc := ⟨.hbm, 107, rfl⟩
abbrev main_v46 : Ref sig .tc := ⟨.hbm, 108, rfl⟩
abbrev main_cst_11 : Ref sig .tc := ⟨.hbm, 109, rfl⟩
abbrev main_v47 : Ref sig .tc := ⟨.hbm, 110, rfl⟩

abbrev nD : Nat := 1
abbrev τ : Topo := Topo.v7x

variable {F : FTy → Type} [FloatOps F]
-- ==== Proof.IdealTile.lean ====
/-
  The SparseCore call of the program: thirty-two tasks, one per vector subcore of the two SparseCores. Task `(c, s)`
  copies its 512 words of the flattened targets into its own memory, gathers the 512 class weights they name, and
  copies the gathered weights to the same 512 places of the result. What is proved of a task: from its 512 targets, a
  read share of the whole table and its 512 places of the result, it ends with the result's places holding the table
  read at the targets (`gout`), provided every target is a row of the table.
-/
module

public import proofs.«01_k».proof.Defs
public import Idealize.ShloMosaic.Lib.SparseCore.Quiescent
public import Idealize.ShloMosaic.Lib.SparseCore.Ops
public import Idealize.ShloMosaic.Lib.SparseCore.Stream
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.IdealRun

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem reads it -/

/-- The labels of the program's procedures. -/
abbrev ΛP : Labels := Pipeline.Sig Λ₀ (Fin 2) fun p => (pcfgs (F := F) p).Adm
/-- The SparseCore call. -/
abbrev K : SparseCore.Cfg τ sig (ΛP (F := F)) 1 := sc (F := F)
/-- The call has 16 tiles on a SparseCore. -/
theorem nSub_zero : (K (F := F)).nSub 0 = 16 := rfl
/-- The call has 2 SparseCores. -/
theorem nCore_zero : (K (F := F)).nCore 0 = 2 := rfl
/-- The procedures of the program. -/
abbrev D [FloatOps F] : Defs nD τ sig (Elt F) (ΛP (F := F)) := Pipeline.defs pcfgs defs₀
/-- No variants. -/
abbrev 𝒱₀ : Variants := Variants.none
/-- No variants, lifted to the calls. -/
abbrev 𝒱 : Variants := 𝒱₀.lift
/-- The variant of no loop. -/
abbrev v₀ : 𝒱.V := Sum.inl none

/-- The side conditions of the SparseCore launch: its four semaphores are apart and unscoped, no buffer is shared. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-! ## The ghost state: the handshakes' rounds, the pipelines' rounds, the transfers' counters -/

/-- The handshakes' ghost state. -/
abbrev UH : Type := URounds (GSem nD τ sig) ℕ
/-- The ghost state: the handshakes', the pipelines' and the counters'. -/
abbrev UU : Type := UH × (UR sig nD τ × Counters)

local notation "𝕄" => MT nD τ sig (HIx 1) (Elt F) ℕ UU ℕ

/-- The handshakes' part of the ghost state. -/
abbrev EH : Emb UH (MT nD τ sig (HIx 1) (Elt F) ℕ UU ℕ) := embL

/-! ## The call's operands -/

/-- Where the flattened targets lie. -/
abbrev iLoc (d : Dev nD) : Loc nD τ sig := (SparseCore.T d).loc main_v1
/-- Where the class weights lie. -/
abbrev xLoc (d : Dev nD) : Loc nD τ sig := (SparseCore.T d).loc main_arg2
/-- Where the gathered weights go. -/
abbrev oLoc (d : Dev nD) : Loc nD τ sig := (SparseCore.T d).loc main_v2

/-- The flattened targets, as a tile sees them. -/
abbrev iV : Memref sig .scVector .hbm S16384 .i32 := Memref.whole main_v1_scv
/-- The class weights, as a tile sees them. -/
abbrev xV : Memref sig .scVector .hbm S1024 .f32 := Memref.whole main_arg2_scv
/-- The gathered weights, as a tile sees them. -/
abbrev oV : Memref sig .scVector .hbm S16384 .f32 := Memref.whole main_v2_scv
/-- A tile's buffer of targets. -/
abbrev sV : Memref sig .scVector .vmem S512 .i32 := Memref.whole cc0_scratch0
/-- A tile's buffer of weights. -/
abbrev rV : Memref sig .scVector .vmem S512 .f32 := Memref.whole cc0_scratch1

/-- The table has rows. -/
theorem S1024_pos : ∀ a, 0 < S1024.size a := by decide

/-- Row `n` of the table, as an index of it. -/
def tabIx (n : ℕ) : S1024.Idx := fun a => ⟨n % S1024.size a, Nat.mod_lt _ (S1024_pos a)⟩

/-- The gathered weights: the table `xt` read at the rows the words `xi` name. -/
def gout (xi : S16384.Idx → Elt F .i32) (xt : S1024.Idx → Elt F .f32) : S16384.Idx → Elt F .f32 :=
  fun j => xt (tabIx (xi j).toNat)

/-! ## The tasks' shares of the operands -/

/-- The grid's first axis is the 2 SparseCores. -/
theorem bound_zero : grid0.bound 0 = 2 := rfl
/-- The grid's second axis is the 16 tiles. -/
theorem bound_one : grid0.bound 1 = 16 := rfl

/-- The grid point of SparseCore `c`, subcore `s`. -/
def coordsV (c : Fin (grid0.bound 0)) (s : Fin (grid0.bound 1)) : grid0.Coords :=
  fun | 0 => c | 1 => s | ⟨_ + 2, h⟩ => absurd h (Nat.not_lt.2 (Nat.le_add_left _ _))

/-- A tile's grid coordinates, from its pair. -/
abbrev coordsP (x : Fin 2 × Fin 16) : grid0.Coords := coordsV x.1 x.2

/-- The 512 places of task `L`. -/
abbrev rowK (L : grid0.Coords) : Rect S16384 := Rect.unit (s := S16384) (k0_off1 L) S512.size (k0_off1_inb L)
/-- A tile's part of the targets. -/
abbrev iRowK (L : grid0.Coords) : Memref sig .scVector .hbm S512 .i32 := iV.slice (rowK L) (fun _ => rfl)
/-- A tile's part of the result. -/
abbrev oRowK (L : grid0.Coords) : Memref sig .scVector .hbm S512 .f32 := oV.slice (rowK L) (fun _ => rfl)
/-- The whole table, as the gather names it. -/
abbrev xAllK : Memref sig .scVector .hbm S1024 .f32 := xV.slice (Rect.unit (s := S1024) ![0] S1024.size inb_S1024_S1024_0) (fun _ => rfl)

/-- The indices of a tile's part of the targets. -/
theorem set_iRowK (L : grid0.Coords) : (iRowK L).view.set = (rowK L).set := View.set_slice_whole _ _
/-- The indices of a tile's part of the result. -/
theorem set_oRowK (L : grid0.Coords) : (oRowK L).view.set = (rowK L).set := View.set_slice_whole _ _

/-- A place is task `L`'s exactly when it lies in its 512. -/
theorem mem_rowK (L : grid0.Coords) (j : S16384.Idx) :
    j ∈ (rowK L).set ↔ 1024 * (L 1).val + 512 * (L 0).val ≤ (j 0).val ∧ (j 0).val < 1024 * (L 1).val + 512 * (L 0).val + 512 := by
  rw [Rect.mem_set_unit]
  constructor
  · intro h; have := h 0; rw [k0_off1_eq] at this; exact this
  · intro h a
    match a with
    | 0 => rw [k0_off1_eq]; exact h

/-- Different tiles' parts do not overlap. -/
theorem rows_disjoint : ∀ x ∈ (Finset.univ : Finset (Fin 2 × Fin 16)), ∀ y ∈ (Finset.univ : Finset (Fin 2 × Fin 16)), x ≠ y →
    Disjoint (rowK (coordsP x)).set (rowK (coordsP y)).set := by
  intro x _ y _ h
  refine Finset.disjoint_left.mpr fun j hx hy => h ?_
  rw [mem_rowK] at hx hy
  have h0 : (coordsP x 0).val = x.1.val := rfl
  have h1 : (coordsP x 1).val = x.2.val := rfl
  have g0 : (coordsP y 0).val = y.1.val := rfl
  have g1 : (coordsP y 1).val = y.2.val := rfl
  rw [h0, h1] at hx; rw [g0, g1] at hy
  have := x.1.isLt; have := y.1.isLt; have := x.2.isLt; have := y.2.isLt
  exact Prod.ext (Fin.ext (by omega)) (Fin.ext (by omega))

/-- The tiles' parts cover the array. -/
theorem rows_cover : (Finset.univ : Finset (Fin 2 × Fin 16)).biUnion (fun x => (rowK (coordsP x)).set) = Finset.univ := by
  refine Finset.eq_univ_iff_forall.mpr fun j => Finset.mem_biUnion.mpr ?_
  have hj : (j 0).val < 16384 := (j 0).isLt
  refine ⟨(⟨((j 0).val / 512) % 2, by omega⟩, ⟨(j 0).val / 1024, by omega⟩), Finset.mem_univ _, ?_⟩
  rw [mem_rowK]
  show 1024 * ((j 0).val / 1024) + 512 * (((j 0).val / 512) % 2) ≤ _ ∧ _ < 1024 * ((j 0).val / 1024) + 512 * (((j 0).val / 512) % 2) + 512
  omega

/-- Task `x`'s read share of the table. -/
abbrev xq (x : Fin 2 × Fin 16) : PosShare TreeShare := Transfers.shareTok fullShare 32 (finProdFinEquiv x)

/-- The targets whole are the tasks' targets at once. -/
theorem iPts_rows (d : Dev nD) (f : Buf (Elt F) (iLoc d)) :
    (iLoc d ↦{fullShare} f : sProp 𝕄) = bigSep Finset.univ fun x : Fin 2 × Fin 16 => iLoc d ↦[(rowK (coordsP x)).set]{fullShare} f := by
  rw [← pointsTo_biUnion Finset.univ (ℓ := iLoc d) (fun x => (rowK (coordsP x)).set) rows_disjoint, rows_cover]; try rfl
/-- The result whole is the tasks' places at once. -/
theorem oPts_rows (d : Dev nD) (f : Buf (Elt F) (oLoc d)) :
    (oLoc d ↦{fullShare} f : sProp 𝕄) = bigSep Finset.univ fun x : Fin 2 × Fin 16 => oLoc d ↦[(rowK (coordsP x)).set]{fullShare} f := by
  rw [← pointsTo_biUnion Finset.univ (ℓ := oLoc d) (fun x => (rowK (coordsP x)).set) rows_disjoint, rows_cover]; try rfl
/-- The table whole is a remainder and the tasks' read shares at once. -/
theorem xPts_shares (d : Dev nD) (f : Buf (Elt F) (xLoc d)) :
    (xLoc d ↦{fullShare} f : sProp 𝕄) ⊣⊢ iprop((xLoc d ↦{Transfers.shareDrop fullShare 32} f)
      ∗ bigSep Finset.univ fun x : Fin 2 × Fin 16 => xLoc d ↦{xq x} f) := by
  rw [← bigSep_univ_equiv finProdFinEquiv (fun k : Fin (2 * 16) => (xLoc d ↦{Transfers.shareTok fullShare 32 k} f : sProp 𝕄))]
  exact Transfers.pointsTo_toks fullShare 32

/-! ## What the handshakes carry -/

variable (xi : (d : Dev nD) → Buf (Elt F) (iLoc d)) (xt : (d : Dev nD) → Buf (Elt F) (xLoc d)) (xo : (d : Dev nD) → Buf (Elt F) (oLoc d))

/-- What task `x` takes, the result's places at `f`. -/
abbrev taskPts (d : Dev nD) (x : Fin 2 × Fin 16) (f : Buf (Elt F) (oLoc d)) : sProp 𝕄 :=
  iprop((iLoc d ↦[(rowK (coordsP x)).set]{fullShare} xi d) ∗ (xLoc d ↦{xq x} xt d) ∗ oLoc d ↦[(rowK (coordsP x)).set]{fullShare} f)

/-- Each SparseCore takes its sixteen tasks' operands and brings them back, the result's places at the gathered weights. -/
def P : (K (F := F)).Pay (nD := nD) (Val := Elt F) (Name := ℕ) (U := UU) where
  st := fun q d c => match q with | 0 => bigSep Finset.univ fun s : Fin 16 => taskPts xi xt d (Fin.cast nCore_zero c, s) (xo d)
  dn := fun q d c => match q with | 0 => bigSep Finset.univ fun s : Fin 16 => taskPts xi xt d (Fin.cast nCore_zero c, s) (gout (xi d) (xt d))
  go := fun q d c i => match q with | 0 => taskPts xi xt d (Fin.cast nCore_zero c, Fin.cast nSub_zero i) (xo d)
  td := fun q d c i => match q with | 0 => taskPts xi xt d (Fin.cast nCore_zero c, Fin.cast nSub_zero i) (gout (xi d) (xt d))
  x := fun _ _ => iprop(emp)

/-- What the handshakes carry can be stored. -/
instance P_storable : (P (F := F) xi xt xo).IsStorable where
  st q d c := match q with
    | 0 => (inferInstance : BI.Storable (upEmb : UEmb _ 𝕄) (bigSep Finset.univ fun s : Fin 16 => taskPts xi xt d (Fin.cast nCore_zero c, s) (xo d)))
  dn q d c := match q with
    | 0 => (inferInstance : BI.Storable (upEmb : UEmb _ 𝕄) (bigSep Finset.univ fun s : Fin 16 => taskPts xi xt d (Fin.cast nCore_zero c, s) (gout (xi d) (xt d))))
  go q d c i := match q with
    | 0 => (inferInstance : BI.Storable (upEmb : UEmb _ 𝕄) (taskPts xi xt d (Fin.cast nCore_zero c, Fin.cast nSub_zero i) (xo d)))
  td q d c i := match q with
    | 0 => (inferInstance : BI.Storable (upEmb : UEmb _ 𝕄) (taskPts xi xt d (Fin.cast nCore_zero c, Fin.cast nSub_zero i) (gout (xi d) (xt d))))

/-- A separating product over a SparseCore's 16 tasks. -/
theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

/-- A SparseCore deals its operands to its tasks as they came, and collects them as they come back. -/
theorem vecSplit : (K (F := F)).VecSplit' (P xi xt xo) 0 := by
  intro d c
  show (bigSep Finset.univ fun s : Fin 16 => taskPts xi xt d (Fin.cast nCore_zero c, s) (xo d)) ⊢ |={Set.univ}=> iprop(
      (bigSep Finset.univ fun i : Fin ((K (F := F)).nSub 0) => taskPts xi xt d (Fin.cast nCore_zero c, Fin.cast nSub_zero i) (xo d))
      ∗ ((bigSep Finset.univ fun i : Fin ((K (F := F)).nSub 0) => taskPts xi xt d (Fin.cast nCore_zero c, Fin.cast nSub_zero i) (gout (xi d) (xt d)))
          -∗ bigSep Finset.univ fun s : Fin 16 => taskPts xi xt d (Fin.cast nCore_zero c, s) (gout (xi d) (xt d))))
  rw [bigSep_tasks (F := F) (fun i => taskPts xi xt d (Fin.cast nCore_zero c, i) (xo d)),
    bigSep_tasks (F := F) (fun i => taskPts xi xt d (Fin.cast nCore_zero c, i) (gout (xi d) (xt d)))]
  iintro H; imodintro
  isplitl [H]; · iexact H
  iintro H; iexact H

/-- Every target is a row of the table. -/
def InRange : Prop := ∀ (d : Dev nD) (j : S16384.Idx), (xi d j).toNat < 1024

/-! ## The task -/

section Tile

variable [FloatOps F]
variable (d : Dev nD) (L : grid0.Coords)

/-- A tile's SparseCore. -/
abbrev cV (L : grid0.Coords) : Fin τ.nSC := (L 0).castLE hcore0
/-- A tile's number in its SparseCore. -/
abbrev jV (L : grid0.Coords) : Fin τ.nSub := (L 1).castLE hsub0
/-- A tile's pair, from its grid coordinates. -/
abbrev xL (L : grid0.Coords) : Fin 2 × Fin 16 := (Fin.cast bound_zero (L 0), Fin.cast bound_one (L 1))

omit [FloatOps F] in
/-- A tile's coordinates, to its pair and back. -/
theorem coordsP_xL : coordsP (xL L) = L := by
  funext a
  match a with
  | 0 => rfl
  | 1 => rfl

omit [FloatOps F] in
/-- A tile's part of the targets, held as the program names it. -/
theorem pts_iRowK (f : Buf (Elt F) (iLoc d)) :
    ((iRowK L).view.loc (V d (cV L) (jV L)) ↦[(iRowK L).view.set]{fullShare} f : sProp 𝕄) = iLoc d ↦[(rowK (coordsP (xL L))).set]{fullShare} f := by
  rw [set_iRowK, coordsP_xL]
omit [FloatOps F] in
/-- A tile's part of the result, held as the program names it. -/
theorem pts_oRowK (f : Buf (Elt F) (oLoc d)) :
    ((oRowK L).view.loc (V d (cV L) (jV L)) ↦[(oRowK L).view.set]{fullShare} f : sProp 𝕄) = oLoc d ↦[(rowK (coordsP (xL L))).set]{fullShare} f := by
  rw [set_oRowK, coordsP_xL]
omit [FloatOps F] in
/-- A share of the table, held as the program names it. -/
theorem pts_xV (q : PosShare TreeShare) (f : Buf (Elt F) (xLoc d)) :
    (xV.view.loc (V d (cV L) (jV L)) ↦{q} f : sProp 𝕄) = xLoc d ↦{q} f := rfl
omit [FloatOps F] in
/-- The buffer of targets, held as the program names it. -/
theorem pts_sV (f : Buf (Elt F) ((V d (cV L) (jV L)).loc cc0_scratch0)) :
    (sV.view.loc (V d (cV L) (jV L)) ↦{fullShare} f : sProp 𝕄) = (V d (cV L) (jV L)).loc cc0_scratch0 ↦{fullShare} f := rfl
omit [FloatOps F] in
/-- The buffer of weights, held as the program names it. -/
theorem pts_rV (f : Buf (Elt F) ((V d (cV L) (jV L)).loc cc0_scratch1)) :
    (rV.view.loc (V d (cV L) (jV L)) ↦{fullShare} f : sProp 𝕄) = (V d (cV L) (jV L)).loc cc0_scratch1 ↦{fullShare} f := rfl

/-- The semaphore of a tile's first copy. -/
abbrev cAcell (d : Dev nD) (c : Fin τ.nSC) (i : Fin τ.nSub) : GSem nD τ sig := (V d c i, .dma cc0_scoped0.sem)
/-- The semaphore of a tile's gather. -/
abbrev cBcell (d : Dev nD) (c : Fin τ.nSC) (i : Fin τ.nSub) : GSem nD τ sig := (V d c i, .dma cc0_scratch2.sem)
/-- The semaphore of a tile's last copy. -/
abbrev cCcell (d : Dev nD) (c : Fin τ.nSC) (i : Fin τ.nSub) : GSem nD τ sig := (V d c i, .dma cc0_scoped1.sem)

omit [FloatOps F] in
/-- The three semaphores the task waits on are among the subcore's own. -/
theorem ownSems0_V :
    (ownSems0 (V d (cV L) (jV L)) : sProp 𝕄)
      = iprop(semVal (cAcell d (cV L) (jV L)) 0 ∗ semVal (cBcell d (cV L) (jV L)) 0 ∗ semVal (cCcell d (cV L) (jV L)) 0
          ∗ bigSep ((((ownCells (V d (cV L) (jV L))).erase (cAcell d (cV L) (jV L))).erase (cBcell d (cV L) (jV L))).erase (cCcell d (cV L) (jV L))) fun g => semVal g 0) := by
  unfold SparseCore.Cfg.ownSems0
  rw [SparseCore.bigSep_erase' ((mem_ownCells (g := cAcell d (cV L) (jV L))).mpr ⟨rfl, by
      show (SemLoc.dma cc0_scoped0.sem : SemLoc sig).isScoped .scVector = true; decide⟩),
    SparseCore.bigSep_erase' (Finset.mem_erase.mpr ⟨by simp [cAcell, cBcell]; decide, (mem_ownCells (g := cBcell d (cV L) (jV L))).mpr ⟨rfl, by
      show (SemLoc.dma cc0_scratch2.sem : SemLoc sig).isScoped .scVector = true; decide⟩⟩),
    SparseCore.bigSep_erase' (Finset.mem_erase.mpr ⟨by simp [cBcell, cCcell]; decide, Finset.mem_erase.mpr ⟨by simp [cAcell, cCcell]; decide,
      (mem_ownCells (g := cCcell d (cV L) (jV L))).mpr ⟨rfl, by show (SemLoc.dma cc0_scoped1.sem : SemLoc sig).isScoped .scVector = true; decide⟩⟩⟩)]

omit [FloatOps F] in
/-- The two scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ bigSep (((ownRefs (τ := τ) (.scVector (cV L) (jV L))).erase ((Proc.scVector (cV L) (jV L)).devRef cc0_scratch0)).erase
              ((Proc.scVector (cV L) (jV L)).devRef cc0_scratch1))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩)]

omit [FloatOps F] in
/-- What the first copy lands in the scratch, read back: the task's targets. -/
theorem read_list (fs : Buf (Elt F) ((V d (cV L) (jV L)).loc cc0_scratch0)) (x : S512.Idx) :
    sV.view.read (Elt F) (View.write (Elt F) sV.view fs ((iRowK L).view.read (Elt F) (xi d)) Finset.univ) x = xi d ((iRowK L).view.emb x) := by
  rw [View.write_whole_univ]
  simp only [Memref.view_whole, View.read_whole]
  exact (View.read_apply _ _).trans (cast_eq _ _)

omit [FloatOps F] in
/-- The rows the gather reads are rows of the table. -/
theorem inb_list (h : InRange (F := F) xi) (fs : Buf (Elt F) ((V d (cV L) (jV L)).loc cc0_scratch0)) (pay : S512.Idx → Elt F .i32)
    (hpay : pay = (iRowK L).view.read (Elt F) (xi d)) :
    ∀ x, (sV.view.read (Elt F) (View.write (Elt F) sV.view fs pay Finset.univ) x).toNat < S1024.size gathers_S1024_S512.axis := by
  subst hpay; intro x
  rw [read_list]
  exact h d _

omit [FloatOps F] in
/-- What the gather delivers, place by place: the table at the row the place's target names. -/
theorem gather_value (h : InRange (F := F) xi) (fs : Buf (Elt F) ((V d (cV L) (jV L)).loc cc0_scratch0)) (pay : S512.Idx → Elt F .i32)
    (hpay : pay = (iRowK L).view.read (Elt F) (xi d)) (x : S512.Idx) :
    SparseCore.gatherPayload gathers_S1024_S512 (xAllK.view.read (Elt F) (xt d))
      (SparseCore.rows (si := S512) (sV.view.read (Elt F) (View.write (Elt F) sV.view fs pay Finset.univ)) rfl (inb_list xi d L h fs pay hpay)) x
      = gout (xi d) (xt d) ((oRowK L).view.emb x) := by
  subst hpay
  unfold SparseCore.gatherPayload gout
  rw [View.read_apply, cast_eq]
  congr 1
  funext a
  match a with
  | 0 =>
    apply Fin.ext
    have hax : (gathers_S1024_S512.idx (SparseCore.rows (si := S512) (sV.view.read (Elt F) (View.write (Elt F) sV.view fs
        ((iRowK L).view.read (Elt F) (xi d)) Finset.univ)) rfl (inb_list xi d L h fs _ rfl)) x 0).val
        = (xi d ((iRowK L).view.emb x)).toNat := by
      refine (congrArg Fin.val (Shape.Gathers.idx_axis gathers_S1024_S512 _ x)).trans ?_
      show (sV.view.read (Elt F) _ (S512.rowMajor.symm _)).toNat = _
      rw [read_list]
      congr 3
      apply S512.rowMajor.injective
      rw [Equiv.apply_symm_apply]
      apply Fin.ext
      rw [Shape.rowMajor_val_one]; rfl
    have hlt : (xi d ((iRowK L).view.emb x)).toNat < 1024 := h d _
    show 0 + 1 * (gathers_S1024_S512.idx _ x 0).val = (xi d ((iRowK L).view.emb x)).toNat % 1024
    rw [hax, Nat.mod_eq_of_lt hlt]; omega

omit [FloatOps F] in
/-- A task's copy out leaves each of its places at what it copied there. -/
theorem out_value (f G : Buf (Elt F) (oLoc d)) (w : S512.Idx → Elt F .f32) (hw : ∀ x, w x = G ((oRowK L).view.emb x)) :
    ∀ j ∈ (oRowK L).view.set, (oRowK L).view.writes (Elt F) f [⟨Rect.whole S512, w⟩] j = G j := by
  intro j hj
  obtain ⟨x, -, rfl⟩ := Finset.mem_map.mp hj
  have e := View.read_writes_cons_emb (Val := Elt F) (oRowK L).view f (Rect.whole S512) w [] x
  rw [View.read_apply, cast_eq] at e
  have hx : (Rect.whole S512).emb x = x := by
    funext a
    match a with
    | 0 => apply Fin.ext; show 0 + 1 * (x 0).val = (x 0).val; omega
  rw [hx] at e
  exact e.trans (hw x)

set_option maxHeartbeats 4000000 in
/-- The task on vector subcore `(L 0, L 1)` of device `d`: the targets' copy and its wait, the gather and its wait, the
    copy out and its wait; its places of the result end at the gathered weights. -/
theorem tile_body (hF : (K (F := F)).Facts) (h : InRange (F := F) xi) (O : CellTallies nD τ sig (HIx 1)) (W : Waits sig (HIx 1)) (hO : ∀ g, O g none = 0) :
    iprop(levAts (K (F := F)).L (K (F := F)).lev ∗ emp
        ∗ taskPts xi xt d (xL L) (xo d)
        ∗ scopedBufs (V d (cV L) (jV L)) ∗ scopedSems0 (V d (cV L) (jV L)) ∗ owes (V d (cV L) (jV L)) O W)
      ⊢ wp frame (wpE (defs₀ (F := F)) 𝒱₀ (V d (cV L) (jV L)) none) Set.univ
          (cc0_gather_k L xV (Memref.isWhole_whole _) iV (Memref.isWhole_whole _) oV (Memref.isWhole_whole _)
            sV (Memref.isWhole_whole _) rV (Memref.isWhole_whole _) cc0_scratch2 cc0_scoped0 cc0_scoped1)
          fun _ => iprop(taskPts xi xt d (xL L) (gout (xi d) (xt d))
            ∗ scopedBufs (V d (cV L) (jV L)) ∗ scopedSems0 (V d (cV L) (jV L))
            ∗ ∃ W', ⌜∀ p ∈ W', p ∈ W ∨ p.2 = none⌝ ∗ owes (V d (cV L) (jV L)) O W') := by
  simp only [cc0_gather_k_eq_skeleton]; unfold cc0_gather_k_skel
  rw [(K (F := F)).scopedBufs_V hF d (cV L) (jV L), SparseCore.Cfg.scopedSems0_V (Val := Elt F) d (cV L) (jV L), ownSems0_V, ownBufs_V]
  iintro ⟨#Hlv, -, ⟨Hi, Hx, Ho⟩, ⟨⟨%fs, Hs⟩, ⟨%fr, Hr⟩, Hbufs⟩, ⟨HsemA, HsemB, HsemC, Hsems⟩, HO⟩
  ihave Hmw := (show levAts (K (F := F)).L (K (F := F)).lev ⊢ Transfers.MayWaits (V d (cV L) (jV L)) (default : HIx 1) O from
    (K (F := F)).mayWaits_none (thr := V d (cV L) (jV L)) hO) $$ Hlv
  ihave Hi' := (Entails.of_eq (pts_iRowK (F := F) d L _).symm) $$ Hi
  ihave Ho' := (Entails.of_eq (pts_oRowK (F := F) d L _).symm) $$ Ho
  ihave Hx' := (Entails.of_eq (pts_xV (F := F) d L _ _).symm) $$ Hx
  ihave Hs' := (Entails.of_eq (pts_sV (F := F) d L _).symm) $$ Hs
  ihave Hr' := (Entails.of_eq (pts_rV (F := F) d L _).symm) $$ Hr
  sl_exec
  ihave Hxs := (pointsTo_split_subset (q := xq (xL L)) (f := xt d) (S := Finset.univ) (Finset.subset_univ xAllK.view.set)).1 $$ Hx'
  icases Hxs with ⟨Hxs, Hxr⟩
  have hrs : rV.view.set = Finset.univ := View.set_whole _
  have hss : sV.view.set = Finset.univ := View.set_whole _
  ihave Hr'' := (Entails.of_eq (show (rV.view.loc (V d (cV L) (jV L)) ↦{fullShare} fr : sProp 𝕄)
      = rV.view.loc (V d (cV L) (jV L)) ↦[rV.view.set]{fullShare} fr by rw [hrs])) $$ Hr'
  ihave Hs'' := (Entails.of_eq (show (sV.view.loc (V d (cV L) (jV L)) ↦{fullShare} View.write (Elt F) sV.view fs (tile_body.sl.dma0 xi d L) Finset.univ : sProp 𝕄)
      = sV.view.loc (V d (cV L) (jV L)) ↦[sV.view.set]{fullShare} View.write (Elt F) sV.view fs (tile_body.sl.dma0 xi d L) Finset.univ
      by rw [hss])) $$ Hs'
  have hN : ∀ g : S1024.Gathers 0 S512, ∑ j, (rV.slice (S512.rowRect g.axis' j) (S512.stride_rowRect g.axis' j)).view.dmaCredit
      = rV.view.dmaCredit := by decide +kernel
  iapply (SparseCore.wp_indirectGatherLocal countersEmb 𝒱₀ (V d (cV L) (jV L)) none (hg := gathers_S1024_S512) (default : HIx 1)
      rV.view.dmaCredit (hN _) (by decide) (inb_list xi d L h fs _ rfl)) $$ [Hxs Hr'' Hs'' HsemB]
  · isplitl [Hxs]; · iexact Hxs
    isplitl [Hr'']; · iexact Hr''
    isplitl [Hs'']; · iexact Hs''
    iexact HsemB
  iintro Hfl
  sl_exec
  iapply (Transfers.wp_waitLocalO countersEmb 𝒱₀ (V d (cV L) (jV L)) none (default : HIx 1) (rfl : rV.view.dmaCredit = _)) $$ [Hfl HO]
  · isplitl [Hfl]; · iexact Hfl
    isplitl [HO]; · iexact HO
    iapply (Transfers.MayWaits.elim (SemLoc.dma cc0_scratch2.sem)) $$ Hmw
  iintro ⟨⟨Hr', Hxs, Hs'⟩, HsemB, HO⟩
  ihave Hx' := (pointsTo_split_subset (q := xq (xL L)) (f := xt d) (S := Finset.univ) (Finset.subset_univ xAllK.view.set)).2 $$ [Hxs Hxr]; · isplitl [Hxs] <;> iassumption
  ihave Hr3 := (Entails.of_eq (show (rV.view.loc (V d (cV L) (jV L)) ↦[rV.view.set]{fullShare} _ : sProp 𝕄)
      = rV.view.loc (V d (cV L) (jV L)) ↦{fullShare} _ by rw [hrs])) $$ Hr'
  ihave Hs3 := (Entails.of_eq (show (sV.view.loc (V d (cV L) (jV L)) ↦[sV.view.set]{fullShare} _ : sProp 𝕄)
      = sV.view.loc (V d (cV L) (jV L)) ↦{fullShare} _ by rw [hss])) $$ Hs'
  sl_exec
  sl_step
  have hval : ∀ x, tile_body.sl.dma0_1 xi xt d L h fs fr x = gout (xi d) (xt d) ((oRowK L).view.emb x) := by
    intro x
    refine Eq.trans ?_ (gather_value xi xt d L h fs _ rfl x)
    unfold tile_body.sl.dma0_1
    exact congrFun (View.write_whole_univ (Val := Elt F) cc0_scratch1 fr _) x
  ihave Ho2 := (Entails.of_eq (pointsTo_congr (ℓ := oLoc d) (q := fullShare) (out_value d L (xo d) (gout (xi d) (xt d)) _ hval))) $$ Ho'
  isplitl [Hi' Hx' Ho2]
  · isplitl [Hi']; · iapply (Entails.of_eq (pts_iRowK (F := F) d L _)); iexact Hi'
    isplitl [Hx']; · iexact Hx'
    iapply (Entails.of_eq (pts_oRowK (F := F) d L _)); iexact Ho2
  isplitl [Hs3 Hr3 Hbufs]
  · isplitl [Hs3]; · iexists _; iexact Hs3
    isplitl [Hr3]; · iexists _; iexact Hr3
    iexact Hbufs
  isplitl [HsemA HsemB HsemC Hsems]
  · isplitl [HsemA]; · iexact HsemA
    isplitl [HsemB]; · iexact HsemB
    isplitl [HsemC]; · iexact HsemC
    iexact Hsems
  iexists _; isplitr
  swap; · iexact HO
  ipureintro; intro p hp
  rcases Finset.mem_insert.mp hp with hp | hp; · exact .inr (hp ▸ rfl)
  rcases Finset.mem_insert.mp hp with hp | hp; · exact .inr (hp ▸ rfl)
  rcases Finset.mem_insert.mp hp with hp | hp; · exact .inr (hp ▸ rfl)
  exact .inl hp

/-! ## The obligation -/

/-- What a vector subcore runs for the call is the kernel at its grid point. -/
theorem defs₀_vector (c : Fin τ.nSC) (s : Fin τ.nSub) :
    defs₀ (F := F) (.scVector c s) 0 ()
      = SparseCore.onTile hcore0 hsub0 (fun c s => cc0_gather_k (coordsV c s)
          xV (Memref.isWhole_whole _) iV (Memref.isWhole_whole _) oV (Memref.isWhole_whole _)
          sV (Memref.isWhole_whole _) rV (Memref.isWhole_whole _) cc0_scratch2 cc0_scoped0 cc0_scoped1) ⟨⟩ c s := rfl

omit [FloatOps F] in
/-- What a task ends with is what its obligation asks for. -/
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

set_option maxRecDepth 16384 in
/-- Every task of the call meets its obligation. -/
theorem tileObl (hF : (K (F := F)).Facts) (h : InRange (F := F) xi) : (K (F := F)).TileObl (D (F := F)) 𝒱 (P xi xt xo) v₀ 0 := by
  intro d c i O W hO _ _
  simp only [show (P (F := F) xi xt xo).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact (tile_body xi xt xo d (coordsV ⟨_, hci.1⟩ ⟨_, hci.2⟩) hF h O W hO).trans (wp_mono frame _ _ fun _ => obl_post)

end Tile

end Cert.Proof.IdealRun

end
-- ==== Proof.IdealBodies.lean ====
/-
  The two TensorCore kernels of the program, each run once on whole staging buffers: what each leaves in its output
  buffers, as a function of what its input buffers hold.
-/
module

public import proofs.«01_k».proof.Proof.IdealTile
public import proofs.«01_k».proof.Proof.Gen.KernelIdeal.Launch
public import proofs.«01_k».proof.Proof.Gen.KernelIdeal.Points
public import Idealize.ShloMosaic.Lib.Pipeline.Regions
public import Idealize.ShloMosaic.Lib.Pipeline.FrameBody
public import Idealize.ShloMosaic.Lib.Pipeline.FrameTail
public import Idealize.ShloMosaic.Lib.Pipeline.Value

@[expose] public section

noncomputable section

namespace Cert.Proof.IdealRun

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

section Whole

variable {sg : RefSig} {κ : Kind} {sp : Space} {S : Shape} {e : EltTy}

/-- One store over a whole buffer leaves its payload. -/
theorem read_store_whole (v : View sg κ sp S e) (f : v.ty.Contents (Elt F)) {off : Fin S.rank → ℕ} (h : off = fun _ => 0)
    (inb : ∀ a, off a + S.size a ≤ S.size a) (w : S.Idx → Elt F e) :
    v.read (Elt F) (v.writes (Elt F) f [⟨Rect.unit off S.size inb, w⟩]) = w := by
  rw [View.read_writes_eq_canon _ _ _ (fun y => ⟨_, List.mem_singleton_self _, View.mem_set_unit_zero h inb y⟩), View.canon_unit_zero h]

/-- A load of a whole buffer reads its contents. -/
theorem readAt_load_whole (M : Memref sg κ sp S e) (hM : M.IsWhole) {off : Fin S.rank → ℕ} (h : off = fun _ => 0)
    (inb : ∀ a, off a + S.size a ≤ S.size a) (x : S.Idx → Elt F e) :
    View.readAt (Elt F) M.view (Rect.unit off S.size inb).toLoadRect (hM.unread x) = x := by
  refine Eq.trans ?_ (View.ld_unit_zero h inb x)
  show View.ld (M.view.read (Elt F) (hM.unread x)) _ = _
  rw [hM.read_unread]

end Whole

/-- Three offsets of zero are the zero offsets. -/
theorem off3 : (![0, 0, 0] : Fin 3 → ℕ) = fun _ => 0 := by funext a; fin_cases a <;> rfl
/-- Two offsets of zero are the zero offsets. -/
theorem off2 : (![0, 0] : Fin 2 → ℕ) = fun _ => 0 := by funext a; fin_cases a <;> rfl

/-- The row kernel on whole staging buffers: from a block of logits `x0` and its row of targets `x1` it leaves the
    logarithm of each column's sum of exponentials in one output and each column's target logit in the other. -/
theorem wp_rows (c : Dev nD) (E : Set ℕ) (i : grid1.Coords) (a2 : Memref sig .tc .vmem S1x1024x1024 .f32) (h2 : a2.IsWhole)
    (a3 : Memref sig .tc .vmem S1x1x1024 .i32) (h3 : a3.IsWhole) (a4 : Memref sig .tc .vmem S1x1x1024 .f32) (h4 : a4.IsWhole)
    (a5 : Memref sig .tc .vmem S1x1x1024 .f32) (h5 : a5.IsWhole)
    (x0 : Vec F S1x1024x1024 .f32) (x1 : Vec F S1x1x1024 .i32) (Q : PUnit → sProp 𝕄) :
    iprop(owns (c : Thread nD τ) a2 fullShare x0 ∗ owns (c : Thread nD τ) a3 fullShare x1
        ∗ (∃ d, owns (c : Thread nD τ) a4 fullShare d) ∗ (∃ d, owns (c : Thread nD τ) a5 fullShare d)
        ∗ (iprop(owns (c : Thread nD τ) a2 fullShare x0 ∗ owns (c : Thread nD τ) a3 fullShare x1
            ∗ owns (c : Thread nD τ) a4 fullShare (k1_pay3 x0) ∗ owns (c : Thread nD τ) a5 fullShare (k1_pay2 x0 x1)) -∗ Q ⟨⟩))
      ⊢ wp frame (wpE (defs₀ (F := F)) 𝒱₀ c none) E (cc1__main_kernel i a2 h2 a3 h3 a4 h4 a5 h5) Q := by
  simp only [cc1__main_kernel_eq_skeleton]; unfold cc1__main_kernel_skel
  unfold owns
  iintro ⟨⟨%f0, %hf0, H0⟩, ⟨%f1, %hf1, H1⟩, ⟨%d2, %f2, -, H2⟩, ⟨%d3, %f3, -, H3⟩, Hk⟩
  obtain rfl := h2.eq_unread hf0; obtain rfl := h3.eq_unread hf1
  sl_exec
  sl_step
  iapply Hk
  isplitl [H0]
  · iexists _; isplitr; · ipureintro; exact h2.read_unread _
    iexact H0
  isplitl [H1]
  · iexists _; isplitr; · ipureintro; exact h3.read_unread _
    iexact H1
  isplitl [H2]
  · iexists _; isplitr; swap; · iexact H2
    ipureintro
    rw [read_store_whole (S := S1x1x1024) _ _ off3, readAt_load_whole (S := S1x1024x1024) _ h2 off3]
  iexists _; isplitr; swap; · iexact H3
  ipureintro
  rw [read_store_whole (S := S1x1x1024) _ _ off3, readAt_load_whole (S := S1x1024x1024) _ h2 off3, readAt_load_whole (S := S1x1x1024) _ h3 off3]

/-- The combining kernel on whole staging buffers: from the log-sums `x0`, the target logits `x1`, the gathered weights
    `x2` and the bin weights `x3` it leaves their combination, summed over every position. -/
theorem wp_combine (c : Dev nD) (E : Set ℕ) (a0 : Memref sig .tc .vmem S1x16384 .f32) (h0 : a0.IsWhole)
    (a1 : Memref sig .tc .vmem S1x16384 .f32) (h1 : a1.IsWhole) (a2 : Memref sig .tc .vmem S1x16384 .f32) (h2 : a2.IsWhole)
    (a3 : Memref sig .tc .vmem S10x1 .f32) (h3 : a3.IsWhole) (a4 : Memref sig .tc .vmem S1x1 .f32) (h4 : a4.IsWhole)
    (x0 x1 x2 : Vec F S1x16384 .f32) (x3 : Vec F S10x1 .f32) (Q : PUnit → sProp 𝕄) :
    iprop(owns (c : Thread nD τ) a0 fullShare x0 ∗ owns (c : Thread nD τ) a1 fullShare x1 ∗ owns (c : Thread nD τ) a2 fullShare x2
        ∗ owns (c : Thread nD τ) a3 fullShare x3 ∗ (∃ d, owns (c : Thread nD τ) a4 fullShare d)
        ∗ (iprop(owns (c : Thread nD τ) a0 fullShare x0 ∗ owns (c : Thread nD τ) a1 fullShare x1 ∗ owns (c : Thread nD τ) a2 fullShare x2
            ∗ owns (c : Thread nD τ) a3 fullShare x3 ∗ owns (c : Thread nD τ) a4 fullShare (k2_pay1 (k2_pay2 x0 x1 x2 x3))) -∗ Q ⟨⟩))
      ⊢ wp frame (wpE (defs₀ (F := F)) 𝒱₀ c none) E (cc2__combine_kernel a0 h0 a1 h1 a2 h2 a3 h3 a4 h4) Q := by
  simp only [cc2__combine_kernel_eq_skeleton]; unfold cc2__combine_kernel_skel
  simp only [k2_part1_eq_skeleton]; unfold k2_part1_skel
  unfold owns
  iintro ⟨⟨%f0, %hf0, H0⟩, ⟨%f1, %hf1, H1⟩, ⟨%f2, %hf2, H2⟩, ⟨%f3, %hf3, H3⟩, ⟨%d4, %f4, -, H4⟩, Hk⟩
  obtain rfl := h0.eq_unread hf0; obtain rfl := h1.eq_unread hf1; obtain rfl := h2.eq_unread hf2; obtain rfl := h3.eq_unread hf3
  sl_exec
  sl_step
  iapply Hk
  isplitl [H0]
  · iexists _; isplitr; · ipureintro; exact h0.read_unread _
    iexact H0
  isplitl [H1]
  · iexists _; isplitr; · ipureintro; exact h1.read_unread _
    iexact H1
  isplitl [H2]
  · iexists _; isplitr; · ipureintro; exact h2.read_unread _
    iexact H2
  isplitl [H3]
  · iexists _; isplitr; · ipureintro; exact h3.read_unread _
    iexact H3
  iexists _; isplitr; swap; · iexact H4
  ipureintro
  rw [read_store_whole (S := S1x1) _ _ off2, readAt_load_whole (S := S1x16384) _ h0 off2, readAt_load_whole (S := S1x16384) _ h1 off2,
    readAt_load_whole (S := S1x16384) _ h2 off2, readAt_load_whole (S := S10x1) _ h3 off2]

end Cert.Proof.IdealRun

end
-- ==== Proof.IdealRegions.lean ====
/-
  The two TensorCore calls of the program as regions of @main: each entered from any contents of the core's arrays, and
  left with its result arrays written and every other array as it was.
-/
module

public import proofs.«01_k».proof.Proof.IdealBodies

@[expose] public section

noncomputable section

namespace Cert.Proof.IdealRun

open Cert.KernelIdeal Cert.KernelIdeal.Gen

open Idealize.ShloMosaic Idealize.ShloMosaic.TcCoe
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation afterRegion afterRegion_arr afterRegion_of_not_arr)
open Idealize.ShloMosaic.Tactic

variable {F : FTy → Type} [FloatOps F]

local notation "𝕄" => MT nD τ sig (HIx 1) (Elt F) ℕ UU ℕ

/-- The waits a core may have recorded by the time of its TensorCore calls: those of the SparseCore call before them. -/
def rec1 (c : Dev nD) : Set (SemLoc sig × HIx 1) := {p | (K (F := F)).lev ((c : Thread nD τ), p.1) p.2 ≤ 8}

/-- The scoped buffers the first call does not stage, each held at something. -/
abbrev rest1 (c : Dev nD) : sProp 𝕄 := Pipeline.scopedRest (Ix := HIx 1) (Name := ℕ) (U := UU) (Lvl := ℕ) (Val := Elt F) spec1 c
/-- The scoped buffers the second call does not stage, each held at something. -/
abbrev rest2 (c : Dev nD) : sProp 𝕄 := Pipeline.scopedRest (Ix := HIx 1) (Name := ℕ) (U := UU) (Lvl := ℕ) (Val := Elt F) spec2 c

variable (V : Dev nD → Valuation τ sig (Elt F))

/-! ## The first call -/

/-- Window `w`'s block at point `t`, off its array at `V`. -/
def blk1 (c : Dev nD) (w : Fin cfg1.W) (t : Fin cfg1.N) : ((cfg1.win w).xblock (cfg1.grid.coords t)).Idx → Elt F (cfg1.win w).elt :=
  ((cfg1.win w).blk t).view.read (Elt F) (V c (Proc.devRef .tc (Pipeline.arrRef spec1 w)))

/-- The block of logits at point `t`. -/
def lg1 (c : Dev nD) (t : Fin cfg1.N) : Vec F S1x1024x1024 .f32 := blk1 V c 0 t
/-- The row of targets at point `t`. -/
def tg1 (c : Dev nD) (t : Fin cfg1.N) : Vec F S1x1x1024 .i32 := blk1 V c 1 t

/-- The first call's proof data: what each staging buffer holds after the body at each point. -/
def dat1 (c : Dev nD) : Dat τ (Elt F) (HIx 1) ℕ UU ℕ cfg1 c where
  A w := V c (Proc.devRef .tc (Pipeline.arrRef spec1 w))
  after w t := match w with
    | ⟨0, _⟩ => blk1 V c 0 t
    | ⟨1, _⟩ => blk1 V c 1 t
    | ⟨2, _⟩ => k1_pay3 (lg1 V c t)
    | ⟨3, _⟩ => k1_pay2 (lg1 V c t) (tg1 V c t)
  Φ _ := rest1 (F := F) c
  q _ := fullShare
  owed _ := 0
  recorded _ := rec1 (F := F) c

/-- The first call finds every window's array as the host left it. -/
theorem A1_eq (c : Dev nD) (w : Fin cfg1.W) : (dat1 V c).A w = V c (Proc.devRef .tc (Pipeline.arrRef spec1 w)) := by dsimp only [dat1]

/-- A point of the first call leaves its block of logits as fetched. -/
theorem after1_0 (c : Dev nD) (t : Fin cfg1.N) : (dat1 V c).after 0 t = blk1 V c 0 t := by dsimp only [dat1]
/-- A point of the first call leaves its row of targets as fetched. -/
theorem after1_1 (c : Dev nD) (t : Fin cfg1.N) : (dat1 V c).after 1 t = blk1 V c 1 t := by dsimp only [dat1]
/-- A point of the first call leaves the logarithms of the sums in its first result block. -/
theorem after1_2 (c : Dev nD) (t : Fin cfg1.N) : (dat1 V c).after 2 t = k1_pay3 (lg1 V c t) := by dsimp only [dat1]
/-- A point of the first call leaves the targets' logits in its second result block. -/
theorem after1_3 (c : Dev nD) (t : Fin cfg1.N) : (dat1 V c).after 3 t = k1_pay2 (lg1 V c t) (tg1 V c t) := by dsimp only [dat1]

/-- A point of the first call finds its block of logits. -/
theorem before1_0 (c : Dev nD) (t : Fin cfg1.N) (d) : (dat1 V c).before 0 t d = lg1 V c t :=
  ((dat1 V c).before_in_eq_fetched 0 rfl (fun _ => rfl) (fun _ _ _ => rfl) (fun t => by rw [after1_0]; unfold Dat.blockOf blk1; rw [A1_eq]; try rfl) t d).trans
    (by unfold Dat.fetched Dat.blockOf lg1 blk1; rw [A1_eq]; try rfl)
/-- A point of the first call finds its row of targets. -/
theorem before1_1 (c : Dev nD) (t : Fin cfg1.N) (d) : (dat1 V c).before 1 t d = tg1 V c t :=
  ((dat1 V c).before_in_eq_fetched 1 rfl (fun _ => rfl) (fun _ _ _ => rfl) (fun t => by rw [after1_1]; unfold Dat.blockOf blk1; rw [A1_eq]; try rfl) t d).trans
    (by unfold Dat.fetched Dat.blockOf tg1 blk1; rw [A1_eq]; try rfl)

/-- The first call's body, run at a point, leaves the blocks that the call's data name. -/
theorem sound_body1 (c : Dev nD) (t : Fin cfg1.N) :
    iprop((dat1 V c).Φ t.castSucc ∗ (dat1 V c).owesAt none t.castSucc
        ∗ (∃ d, owns (c : Thread nD τ) (st1_0 t) fullShare ((dat1 V c).before 0 t d))
        ∗ (∃ d, owns (c : Thread nD τ) (st1_1 t) fullShare ((dat1 V c).before 1 t d))
        ∗ (∃ d, owns (c : Thread nD τ) (st1_2 t) fullShare ((dat1 V c).before 2 t d))
        ∗ (∃ d, owns (c : Thread nD τ) (st1_3 t) fullShare ((dat1 V c).before 3 t d)))
      ⊢ wp frame (wpE (defs₀ (F := F)) 𝒱₀ c none) Set.univ (bodyAt1 t) fun _ =>
          iprop((dat1 V c).Φ t.succ ∗ (dat1 V c).owesAt none t.succ
            ∗ owns (c : Thread nD τ) (st1_0 t) fullShare ((dat1 V c).after 0 t)
            ∗ owns (c : Thread nD τ) (st1_1 t) fullShare ((dat1 V c).after 1 t)
            ∗ owns (c : Thread nD τ) (st1_2 t) fullShare ((dat1 V c).after 2 t)
            ∗ owns (c : Thread nD τ) (st1_3 t) fullShare ((dat1 V c).after 3 t)) := by
  unfold bodyAt1
  simp only [before1_0, before1_1]
  rw [show (dat1 V c).Φ t.succ = (dat1 V c).Φ t.castSucc from rfl,
    show (dat1 V c).owesAt none t.succ = (dat1 V c).owesAt none t.castSucc from rfl,
    after1_0, after1_1, after1_2, after1_3]
  iintro ⟨HΦ, Ho, ⟨%d0, H0⟩, ⟨%d1, H1⟩, ⟨%d2, H2⟩, ⟨%d3, H3⟩⟩
  iapply (wp_rows c Set.univ (grid1.coords t) _ _ _ _ _ _ _ _ (lg1 V c t) (tg1 V c t) _)
  isplitl [H0]; · iexact H0
  isplitl [H1]; · iexact H1
  isplitl [H2]; · iexists _; iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

/-- The body that the first call runs at a point. -/
theorem body_row1 (t : Fin cfg1.N) : (defs₀ (F := F)) .tc cfg1.body (cfg1.bodyArgs t (cfg1.slots t)) = bodyAt1 t := by
  first | rfl | (unfold defs₀; rw [Defs.onTc_tc])

/-- The first call's body is sound at every point. -/
theorem body_obligation1 (c : Dev nD) : BodyObligation (dat1 V c) (defs₀ (F := F)) 𝒱₀ none Set.univ := fun t => by
  rw [bigSep_W1, bigSep_W1, body_row1]
  exact triple_restated (sound_body1 V c t) rfl .rfl fun _ => .rfl

/-! ## The second call -/

/-- Window `w`'s block, the whole of its array at `V`. -/
def blk2 (c : Dev nD) (w : Fin cfg2.W) (t : Fin cfg2.N) : ((cfg2.win w).xblock (cfg2.grid.coords t)).Idx → Elt F (cfg2.win w).elt :=
  ((cfg2.win w).blk t).view.read (Elt F) (V c (Proc.devRef .tc (Pipeline.arrRef spec2 w)))

/-- The logarithms of the sums, as the second call reads them. -/
def in2_0 (c : Dev nD) (t : Fin cfg2.N) : Vec F S1x16384 .f32 := blk2 V c 0 t
/-- The targets' logits, as the second call reads them. -/
def in2_1 (c : Dev nD) (t : Fin cfg2.N) : Vec F S1x16384 .f32 := blk2 V c 1 t
/-- The gathered weights, as the second call reads them. -/
def in2_2 (c : Dev nD) (t : Fin cfg2.N) : Vec F S1x16384 .f32 := blk2 V c 2 t
/-- The loss bins, as the second call reads them. -/
def in2_3 (c : Dev nD) (t : Fin cfg2.N) : Vec F S10x1 .f32 := blk2 V c 3 t

/-- The second call's proof data. -/
def dat2 (c : Dev nD) : Dat τ (Elt F) (HIx 1) ℕ UU ℕ cfg2 c where
  A w := V c (Proc.devRef .tc (Pipeline.arrRef spec2 w))
  after w t := match w with
    | ⟨0, _⟩ => blk2 V c 0 t
    | ⟨1, _⟩ => blk2 V c 1 t
    | ⟨2, _⟩ => blk2 V c 2 t
    | ⟨3, _⟩ => blk2 V c 3 t
    | ⟨4, _⟩ => k2_pay1 (k2_pay2 (in2_0 V c t) (in2_1 V c t) (in2_2 V c t) (in2_3 V c t))
  Φ _ := rest2 (F := F) c
  q _ := fullShare
  owed _ := 0
  recorded _ := rec1 (F := F) c

/-- The second call finds every window's array as the host left it. -/
theorem A2_eq (c : Dev nD) (w : Fin cfg2.W) : (dat2 V c).A w = V c (Proc.devRef .tc (Pipeline.arrRef spec2 w)) := by dsimp only [dat2]

/-- The second call leaves the logarithms of the sums as fetched. -/
theorem after2_0 (c : Dev nD) (t : Fin cfg2.N) : (dat2 V c).after 0 t = blk2 V c 0 t := by dsimp only [dat2]
/-- The second call leaves the targets' logits as fetched. -/
theorem after2_1 (c : Dev nD) (t : Fin cfg2.N) : (dat2 V c).after 1 t = blk2 V c 1 t := by dsimp only [dat2]
/-- The second call leaves the gathered weights as fetched. -/
theorem after2_2 (c : Dev nD) (t : Fin cfg2.N) : (dat2 V c).after 2 t = blk2 V c 2 t := by dsimp only [dat2]
/-- The second call leaves the loss bins as fetched. -/
theorem after2_3 (c : Dev nD) (t : Fin cfg2.N) : (dat2 V c).after 3 t = blk2 V c 3 t := by dsimp only [dat2]
/-- The second call leaves the sum of the tokens' losses in its result block. -/
theorem after2_4 (c : Dev nD) (t : Fin cfg2.N) :
    (dat2 V c).after 4 t = k2_pay1 (k2_pay2 (in2_0 V c t) (in2_1 V c t) (in2_2 V c t) (in2_3 V c t)) := by dsimp only [dat2]

/-- The second call finds the logarithms of the sums. -/
theorem before2_0 (c : Dev nD) (t : Fin cfg2.N) (d) : (dat2 V c).before 0 t d = in2_0 V c t :=
  ((dat2 V c).before_in_eq_fetched 0 rfl (fun _ => rfl) (fun _ _ _ => rfl) (fun t => by rw [after2_0]; unfold Dat.blockOf blk2; rw [A2_eq]; try rfl) t d).trans
    (by unfold Dat.fetched Dat.blockOf in2_0 blk2; rw [A2_eq]; try rfl)
/-- The second call finds the targets' logits. -/
theorem before2_1 (c : Dev nD) (t : Fin cfg2.N) (d) : (dat2 V c).before 1 t d = in2_1 V c t :=
  ((dat2 V c).before_in_eq_fetched 1 rfl (fun _ => rfl) (fun _ _ _ => rfl) (fun t => by rw [after2_1]; unfold Dat.blockOf blk2; rw [A2_eq]; try rfl) t d).trans
    (by unfold Dat.fetched Dat.blockOf in2_1 blk2; rw [A2_eq]; try rfl)
/-- The second call finds the gathered weights. -/
theorem before2_2 (c : Dev nD) (t : Fin cfg2.N) (d) : (dat2 V c).before 2 t d = in2_2 V c t :=
  ((dat2 V c).before_in_eq_fetched 2 rfl (fun _ => rfl) (fun _ _ _ => rfl) (fun t => by rw [after2_2]; unfold Dat.blockOf blk2; rw [A2_eq]; try rfl) t d).trans
    (by unfold Dat.fetched Dat.blockOf in2_2 blk2; rw [A2_eq]; try rfl)
/-- The second call finds the loss bins. -/
theorem before2_3 (c : Dev nD) (t : Fin cfg2.N) (d) : (dat2 V c).before 3 t d = in2_3 V c t :=
  ((dat2 V c).before_in_eq_fetched 3 rfl (fun _ => rfl) (fun _ _ _ => rfl) (fun t => by rw [after2_3]; unfold Dat.blockOf blk2; rw [A2_eq]; try rfl) t d).trans
    (by unfold Dat.fetched Dat.blockOf in2_3 blk2; rw [A2_eq]; try rfl)

/-- The second call's body leaves the blocks that the call's data name. -/
theorem sound_body2 (c : Dev nD) (t : Fin cfg2.N) :
    iprop((dat2 V c).Φ t.castSucc ∗ (dat2 V c).owesAt none t.castSucc
        ∗ (∃ d, owns (c : Thread nD τ) (st2_0 t) fullShare ((dat2 V c).before 0 t d))
        ∗ (∃ d, owns (c : Thread nD τ) (st2_1 t) fullShare ((dat2 V c).before 1 t d))
        ∗ (∃ d, owns (c : Thread nD τ) (st2_2 t) fullShare ((dat2 V c).before 2 t d))
        ∗ (∃ d, owns (c : Thread nD τ) (st2_3 t) fullShare ((dat2 V c).before 3 t d))
        ∗ (∃ d, owns (c : Thread nD τ) (st2_4 t) fullShare ((dat2 V c).before 4 t d)))
      ⊢ wp frame (wpE (defs₀ (F := F)) 𝒱₀ c none) Set.univ (bodyAt2 t) fun _ =>
          iprop((dat2 V c).Φ t.succ ∗ (dat2 V c).owesAt none t.succ
            ∗ owns (c : Thread nD τ) (st2_0 t) fullShare ((dat2 V c).after 0 t)
            ∗ owns (c : Thread nD τ) (st2_1 t) fullShare ((dat2 V c).after 1 t)
            ∗ owns (c : Thread nD τ) (st2_2 t) fullShare ((dat2 V c).after 2 t)
            ∗ owns (c : Thread nD τ) (st2_3 t) fullShare ((dat2 V c).after 3 t)
            ∗ owns (c : Thread nD τ) (st2_4 t) fullShare ((dat2 V c).after 4 t)) := by
  unfold bodyAt2
  simp only [before2_0, before2_1, before2_2, before2_3]
  rw [show (dat2 V c).Φ t.succ = (dat2 V c).Φ t.castSucc from rfl,
    show (dat2 V c).owesAt none t.succ = (dat2 V c).owesAt none t.castSucc from rfl,
    after2_0, after2_1, after2_2, after2_3, after2_4]
  iintro ⟨HΦ, Ho, ⟨%d0, H0⟩, ⟨%d1, H1⟩, ⟨%d2, H2⟩, ⟨%d3, H3⟩, ⟨%d4, H4⟩⟩
  iapply (wp_combine c Set.univ _ _ _ _ _ _ _ _ _ _ (in2_0 V c t) (in2_1 V c t) (in2_2 V c t) (in2_3 V c t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body that the second call runs. -/
theorem body_row2 (t : Fin cfg2.N) : (defs₀ (F := F)) .tc cfg2.body (cfg2.bodyArgs t (cfg2.slots t)) = bodyAt2 t := by
  first | rfl | (unfold defs₀; rw [Defs.onTc_tc])

/-- The second call's body is sound. -/
theorem body_obligation2 (c : Dev nD) : BodyObligation (dat2 V c) (defs₀ (F := F)) 𝒱₀ none Set.univ := fun t => by
  rw [bigSep_W2, bigSep_W2, body_row2]
  exact triple_restated (sound_body2 V c t) rfl .rfl fun _ => .rfl

/-! ## The calls as regions -/

/-- The two calls' launch conditions. -/
abbrev adm : (p : Fin 2) → (pcfgs (F := F) p).Adm := fun p => (cfgs p).toPCfg_adm

/-- The proof data of both calls: the first entered at `V`, the second at `V'`. -/
def pdats (V V' : Dev nD → Valuation τ sig (Elt F)) : (p : Fin 2) → (c : Dev nD) →
    Dat τ (Elt F) (HIx 1) ℕ UU ℕ (Pipeline.pin (pcfgs (F := F)) adm p) c
  | ⟨0, _⟩ => fun c => dat1 V c
  | ⟨1, _⟩ => fun c => dat2 V' c

/-- The core owing nothing, its recorded waits all of the SparseCore call. -/
abbrev idle (c : Dev nD) : sProp 𝕄 :=
  iprop(∃ W, ⌜(K (F := F)).WBelow (c : Thread nD τ) W 8⌝ ∗ owes (c : Thread nD τ) (0 : CellTallies nD τ sig (HIx 1)) W)

/-- The waits a staging semaphore records are at index `none`, below every other. -/
theorem owesAt_idle {cfg : Cfg sig Λ₀} {c : Dev nD} (dat : Dat τ (Elt F) (HIx 1) ℕ UU ℕ cfg c) (t : Fin (cfg.N + 1))
    (ho : dat.owed t = 0) (hr : dat.recorded t = rec1 (F := F) c) : dat.owesAt none t ⊢ (idle (F := F) c : sProp 𝕄) := by
  unfold Dat.owesAt Pipeline.owesWithin
  rw [ho]
  iintro ⟨%W, %hW, HO⟩
  iexists W; isplitr
  · ipureintro
    intro p hp
    rcases hW hp with h | h
    · rw [hr] at h; exact h
    · obtain ⟨w, s, rfl⟩ := h; exact Nat.zero_le _
  iexact HO

/-- A TensorCore that owes nothing meets a call at a point whose data name nothing owed. -/
theorem idle_owesAt {cfg : Cfg sig Λ₀} {c : Dev nD} (dat : Dat τ (Elt F) (HIx 1) ℕ UU ℕ cfg c) (t : Fin (cfg.N + 1))
    (ho : dat.owed t = 0) (hr : dat.recorded t = rec1 (F := F) c) : (idle (F := F) c : sProp 𝕄) ⊢ dat.owesAt none t := by
  unfold Dat.owesAt Pipeline.owesWithin
  rw [ho]
  iintro ⟨%W, %hW, HO⟩
  iexists W; isplitr
  · ipureintro
    intro p hp
    exact Or.inl (by rw [hr]; exact hW p hp)
  iexact HO

set_option backward.isDefEq.respectTransparency.types false in
/-- The first call over the core's unscoped buffers: entered at `V`, left with its two results written. -/
def reg1 (V V' : Dev nD → Valuation τ sig (Elt F)) :
    Pipeline.RegionSeg (pcfgs (F := F)) adm (pdats V V') none defs₀ 𝒱₀ (K (F := F)).L (K (F := F)).lev 0 where
  win := launch1.win.to₀
  block_pos := launch1.block_pos
  stage_whole := launch1.stage_whole
  K := PEmpty
  osem k := k.elim
  ho := Pipeline.OwnSemFacts.none _
  hbody c := (body_obligation1 V c).loose
  hwaits := Pipeline.hwaits_of_owed_zero _ _ _ _ (K (F := F)).L (K (F := F)).lev 0 fun _ _ => rfl
  pre c := iprop(unscopedBufs c (fun b => V c (Proc.devRef .tc b)) ∗ idle (F := F) c)
  post c := iprop(unscopedBufs c (fun b => afterRegion (dat1 V c) (V c) (Proc.devRef .tc b)) ∗ idle (F := F) c)
  X _ := BI.emp
  Y _ := BI.emp
  Z c := Pipeline.unscopedRest (Ix := HIx 1) (Name := ℕ) (U := UU) (Lvl := ℕ) spec1 c (fun b => V c (Proc.devRef .tc b))
  hentry c := by
    rw [Pipeline.ownSems0_none]
    have hsplit := Pipeline.arrays_of_unscopedBufs (p := 0) (pcfgs (F := F)) adm (pdats V V') launch1.win launch1.arr_whole c
      ((pdats V V' 0 c).share_full fun _ => rfl) (fun b => V c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (idle_owesAt (dat1 V c) 0 rfl rfl); iexact HO
    isplitr; · iempintro
    iexact Hrest
  hin c := by
    rw [show (pdats V V' 0 c).Φ 0 = rest1 (F := F) c from rfl]
    iintro ⟨-, -, Hr⟩; iexact Hr
  hout c := by
    rw [Pipeline.ownSems0_none, show (pdats V V' 0 c).Φ (Fin.last _) = rest1 (F := F) c from rfl]
    iintro Hr
    isplitr; · iempintro
    isplitr; · iempintro
    iexact Hr
  hexit c := by
    have hjoin := Pipeline.unscopedBufs_of_arrays (p := 0) (pcfgs (F := F)) adm (Ix := HIx 1) (Name := ℕ) (U := UU) (Lvl := ℕ) launch1.win launch1.arr_whole c
      (pdats V V') ((pdats V V' 0 c).share_full fun _ => rfl) (fun b => V c (Proc.devRef .tc b)) (fun b => afterRegion (dat1 V c) (V c) (Proc.devRef .tc b))
      ((pdats V V' 0 c).arrAt · cfg1.N)
      (fun w => (afterRegion_arr (dat1 V c) (V c) launch1.win.arr_inj w).symm)
      (fun b hb => afterRegion_of_not_arr (dat1 V c) (V c) fun w h => hb (h ▸ Finset.mem_image.mpr ⟨w, Finset.mem_univ _, rfl⟩))
    iintro ⟨Ha, HO, -, Hrest⟩
    imodintro
    isplitl [Ha Hrest]
    · iapply hjoin; isplitl [Ha] <;> iassumption
    iapply (owesAt_idle (dat1 V c) (Fin.last _) rfl rfl); iexact HO

set_option backward.isDefEq.respectTransparency.types false in
/-- The second call over the core's unscoped buffers: entered at `V'`, left with its result written. -/
def reg2 (V V' : Dev nD → Valuation τ sig (Elt F)) :
    Pipeline.RegionSeg (pcfgs (F := F)) adm (pdats V V') none defs₀ 𝒱₀ (K (F := F)).L (K (F := F)).lev 1 where
  win := launch2.win.to₀
  block_pos := launch2.block_pos
  stage_whole := launch2.stage_whole
  K := PEmpty
  osem k := k.elim
  ho := Pipeline.OwnSemFacts.none _
  hbody c := (body_obligation2 V' c).loose
  hwaits := Pipeline.hwaits_of_owed_zero _ _ _ _ (K (F := F)).L (K (F := F)).lev 1 fun _ _ => rfl
  pre c := iprop(unscopedBufs c (fun b => V' c (Proc.devRef .tc b)) ∗ idle (F := F) c)
  post c := iprop(unscopedBufs c (fun b => afterRegion (dat2 V' c) (V' c) (Proc.devRef .tc b)) ∗ idle (F := F) c)
  X _ := BI.emp
  Y _ := BI.emp
  Z c := Pipeline.unscopedRest (Ix := HIx 1) (Name := ℕ) (U := UU) (Lvl := ℕ) spec2 c (fun b => V' c (Proc.devRef .tc b))
  hentry c := by
    rw [Pipeline.ownSems0_none]
    have hsplit := Pipeline.arrays_of_unscopedBufs (p := 1) (pcfgs (F := F)) adm (pdats V V') launch2.win launch2.arr_whole c
      ((pdats V V' 1 c).share_full fun _ => rfl) (fun b => V' c (Proc.devRef .tc b)) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (idle_owesAt (dat2 V' c) 0 rfl rfl); iexact HO
    isplitr; · iempintro
    iexact Hrest
  hin c := by
    rw [show (pdats V V' 1 c).Φ 0 = rest2 (F := F) c from rfl]
    iintro ⟨-, -, Hr⟩; iexact Hr
  hout c := by
    rw [Pipeline.ownSems0_none, show (pdats V V' 1 c).Φ (Fin.last _) = rest2 (F := F) c from rfl]
    iintro Hr
    isplitr; · iempintro
    isplitr; · iempintro
    iexact Hr
  hexit c := by
    have hjoin := Pipeline.unscopedBufs_of_arrays (p := 1) (pcfgs (F := F)) adm (Ix := HIx 1) (Name := ℕ) (U := UU) (Lvl := ℕ) launch2.win launch2.arr_whole c
      (pdats V V') ((pdats V V' 1 c).share_full fun _ => rfl) (fun b => V' c (Proc.devRef .tc b)) (fun b => afterRegion (dat2 V' c) (V' c) (Proc.devRef .tc b))
      ((pdats V V' 1 c).arrAt · cfg2.N)
      (fun w => (afterRegion_arr (dat2 V' c) (V' c) launch2.win.arr_inj w).symm)
      (fun b hb => afterRegion_of_not_arr (dat2 V' c) (V' c) fun w h => hb (h ▸ Finset.mem_image.mpr ⟨w, Finset.mem_univ _, rfl⟩))
    iintro ⟨Ha, HO, -, Hrest⟩
    imodintro
    isplitl [Ha Hrest]
    · iapply hjoin; isplitl [Ha] <;> iassumption
    iapply (owesAt_idle (dat2 V' c) (Fin.last _) rfl rfl); iexact HO

end Cert.Proof.IdealRun

end
-- ==== Proof.IdealMain.lean ====
/-
  The program's run: the two reshapes of the targets, the SparseCore call, the first TensorCore call, the reshapes
  between the calls, the second TensorCore call and the division, each carried out on the values the arrays hold; and
  from it the launch: every execution ends with each array at the value this chain gives it.
-/
module

public import proofs.«01_k».proof.Proof.IdealRegions

@[expose] public section

noncomputable section

namespace Cert.Proof.IdealRun

open Cert.KernelIdeal Cert.KernelIdeal.Gen

open Idealize.ShloMosaic Idealize.ShloMosaic.TcCoe
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (afterRegion ucRefs unscopedBufs_held)
open Idealize.ShloMosaic.Tactic

variable {F : FTy → Type} [FloatOps F]

local notation "𝕄" => MT nD τ sig (HIx 1) (Elt F) ℕ UU ℕ

/-! ## The host operations -/

/-- The targets' two reshapes, before the calls. -/
def ops1 : List (HloOp τ sig (Elt F)) :=
  [StableHlo.reshape main_arg1 main_v0 (rfl : (.i32 : EltTy) = .i32) shapeCasts_S4x4096_S4x1x4096,
   StableHlo.reshape main_arg1 main_v1 (rfl : (.i32 : EltTy) = .i32) shapeCasts_S4x4096_S16384]

/-- The reshapes between the first TensorCore call and the second. -/
def ops2 : List (HloOp τ sig (Elt F)) :=
  [StableHlo.reshape main_v3_0 main_v4 (rfl : (.f32 : EltTy) = .f32) shapeCasts_S4x1x4096_S1x16384,
   StableHlo.reshape main_v3_1 main_v5 (rfl : (.f32 : EltTy) = .f32) shapeCasts_S4x1x4096_S1x16384,
   StableHlo.reshape main_v2 main_v6 (rfl : (.f32 : EltTy) = .f32) shapeCasts_S16384_S1x16384,
   StableHlo.reshape main_arg3 main_v7 (rfl : (.f32 : EltTy) = .f32) shapeCasts_S10_S10x1]

/-- The division by the number of places, after the calls. -/
def ops3 : List (HloOp τ sig (Elt F)) :=
  [StableHlo.reshape main_v8 main_v9 (rfl : (.f32 : EltTy) = .f32) shapeCasts_S1x1_S_,
   StableHlo.nullary main_cst (constant S_ .f32 0x46800000#32),
   StableHlo.binary main_v9 main_cst main_v10
    (Host.divf : (⟨S_, .f32⟩ : BufTy).Contents (Elt F) → (⟨S_, .f32⟩ : BufTy).Contents (Elt F) → (⟨S_, .f32⟩ : BufTy).Contents (Elt F))]

/-- The reshapes of the targets touch host arrays only. -/
theorem ops1_sub : ∀ op ∈ ops1 (F := F), op.bufs ⊆ ucRefs τ sig := fun op ho =>
  Pipeline.sub_ucRefs op (List.forall_iff_forall_mem.mp
    (show (ops1 (F := F)).Forall fun op => op.bufs ⊆ StableHlo.tcRefs τ sig from
      ⟨StableHlo.reshape_bufs_sub .., StableHlo.reshape_bufs_sub ..⟩) op ho)
/-- The reshapes between the calls touch host arrays only. -/
theorem ops2_sub : ∀ op ∈ ops2 (F := F), op.bufs ⊆ ucRefs τ sig := fun op ho =>
  Pipeline.sub_ucRefs op (List.forall_iff_forall_mem.mp
    (show (ops2 (F := F)).Forall fun op => op.bufs ⊆ StableHlo.tcRefs τ sig from
      ⟨StableHlo.reshape_bufs_sub .., StableHlo.reshape_bufs_sub .., StableHlo.reshape_bufs_sub .., StableHlo.reshape_bufs_sub ..⟩) op ho)
/-- The last operations touch host arrays only. -/
theorem ops3_sub : ∀ op ∈ ops3 (F := F), op.bufs ⊆ ucRefs τ sig := fun op ho =>
  Pipeline.sub_ucRefs op (List.forall_iff_forall_mem.mp
    (show (ops3 (F := F)).Forall fun op => op.bufs ⊆ StableHlo.tcRefs τ sig from
      ⟨StableHlo.reshape_bufs_sub .., StableHlo.nullary_bufs_sub .., StableHlo.binary_bufs_sub ..⟩) op ho)

/-- The reshapes of the targets allocate nothing. -/
theorem ops1_fresh : ∀ op ∈ ops1 (F := F), op.fresh = ∅ := by
  intro _ h; unfold ops1 at h; (repeat (cases h with | head => rfl | tail _ h => ?_)); exact nomatch h
/-- The reshapes between the calls allocate nothing. -/
theorem ops2_fresh : ∀ op ∈ ops2 (F := F), op.fresh = ∅ := by
  intro _ h; unfold ops2 at h; (repeat (cases h with | head => rfl | tail _ h => ?_)); exact nomatch h
/-- The last operations allocate nothing. -/
theorem ops3_fresh : ∀ op ∈ ops3 (F := F), op.fresh = ∅ := by
  intro _ h; unfold ops3 at h; (repeat (cases h with | head => rfl | tail _ h => ?_)); exact nomatch h

/-- @main as the chain of its lines and calls. -/
theorem main_eq (d : Dev nD) : main (F := F) d = (StableHlo.seq ops1 >>= fun _ => (K (F := F)).run d 0 >>= fun _ =>
    SparseCore.liftProg (Prog.lift (.customCall (Pipeline.entry 0) ())) >>= fun _ => StableHlo.seq ops2 >>= fun _ =>
    SparseCore.liftProg (Prog.lift (.customCall (Pipeline.entry 1) ())) >>= fun _ => StableHlo.seq ops3 >>= fun _ => pure ⟨⟩) := rfl

/-! ## The arrays' values along the chain -/

variable (m : (ℓ : Loc nD τ sig) → Buf (Elt F) ℓ) (ρ : Dev nD → PrngReg)

/-- At launch. -/
def V0 (d : Dev nD) : Valuation τ sig (Elt F) := StableHlo.launchContents m d
/-- After the targets' reshapes. -/
def V1 (d : Dev nD) : Valuation τ sig (Elt F) := StableHlo.after ops1 (V0 m d)
/-- The flattened targets, the table and the result array as the SparseCore call finds them. -/
def xiV (d : Dev nD) : Buf (Elt F) (iLoc d) := V1 m d (Proc.devRef .tc main_v1)
/-- The class weights as the SparseCore call finds them. -/
def xtV (d : Dev nD) : Buf (Elt F) (xLoc d) := V1 m d (Proc.devRef .tc main_arg2)
/-- The result array as the SparseCore call finds it. -/
def xoV (d : Dev nD) : Buf (Elt F) (oLoc d) := V1 m d (Proc.devRef .tc main_v2)
/-- After the SparseCore call: its result array at the gathered weights. -/
def V2 (d : Dev nD) : Valuation τ sig (Elt F) := Function.update (V1 m d) (Proc.devRef .tc main_v2) (gout (xiV m d) (xtV m d))
/-- After the first TensorCore call. -/
def V3 (d : Dev nD) : Valuation τ sig (Elt F) := afterRegion (dat1 (V2 m) d) (V2 m d)
/-- After the reshapes between the calls. -/
def V4 (d : Dev nD) : Valuation τ sig (Elt F) := StableHlo.after ops2 (V3 m d)
/-- After the second TensorCore call. -/
def V5 (d : Dev nD) : Valuation τ sig (Elt F) := afterRegion (dat2 (V4 m) d) (V4 m d)
/-- At the end. -/
def V6 (d : Dev nD) : Valuation τ sig (Elt F) := StableHlo.after ops3 (V5 m d)

/-! ## The SparseCore call's operands out of the core's arrays, and back -/

/-- The unscoped arrays the SparseCore call does not touch. -/
def restRefs : Finset (Ref sig .tc) := (((Finset.univ.filter fun b : Ref sig .tc => ¬ b.isScoped).erase main_v1).erase main_arg2).erase main_v2

omit [FloatOps F] in
/-- The host arrays are the SparseCore call's three operands and the rest. -/
theorem unscoped_split (d : Dev nD) (W : (b : Ref sig .tc) → Buf (Elt F) ((d.tc : Thread nD τ).loc b)) :
    (unscopedBufs d W : sProp 𝕄) = iprop((iLoc d ↦{fullShare} W main_v1) ∗ (xLoc d ↦{fullShare} W main_arg2) ∗ (oLoc d ↦{fullShare} W main_v2)
      ∗ bigSep restRefs fun b => (d.tc : Thread nD τ).loc b ↦{fullShare} W b) := by
  unfold unscopedBufs restRefs
  rw [SparseCore.bigSep_erase' (show main_v1 ∈ (Finset.univ.filter fun b : Ref sig .tc => ¬ b.isScoped) by decide),
    SparseCore.bigSep_erase' (show main_arg2 ∈ (Finset.univ.filter fun b : Ref sig .tc => ¬ b.isScoped).erase main_v1 by decide),
    SparseCore.bigSep_erase' (show main_v2 ∈ ((Finset.univ.filter fun b : Ref sig .tc => ¬ b.isScoped).erase main_v1).erase main_arg2 by decide)]

/-- The SparseCore call leaves every array but its result alone. -/
theorem V2_of_ne (d : Dev nD) {b : Ref sig .tc} (h : b ≠ main_v2) : V2 m d (Proc.devRef .tc b) = V1 m d (Proc.devRef .tc b) :=
  Function.update_of_ne (fun e => h (Proc.devRef_injective _ e)) _ _
/-- The SparseCore call's result holds the gathered weights. -/
theorem V2_v2 (d : Dev nD) : V2 m d (Proc.devRef .tc main_v2) = gout (xiV m d) (xtV m d) := Function.update_self _ _ _

/-- The host arrays before the SparseCore call: its three operands and the rest. -/
theorem unscoped_V1 (d : Dev nD) :
    (unscopedBufs d (fun b => V1 m d (Proc.devRef .tc b)) : sProp 𝕄)
      = iprop((iLoc d ↦{fullShare} xiV m d) ∗ (xLoc d ↦{fullShare} xtV m d) ∗ (oLoc d ↦{fullShare} xoV m d)
      ∗ bigSep restRefs fun b => (d.tc : Thread nD τ).loc b ↦{fullShare} V1 m d (Proc.devRef .tc b)) := unscoped_split d _

/-- The host arrays after the SparseCore call: its three operands, the gathered weights in place, and the rest. -/
theorem unscoped_V2 (d : Dev nD) :
    (unscopedBufs d (fun b => V2 m d (Proc.devRef .tc b)) : sProp 𝕄)
      = iprop((iLoc d ↦{fullShare} xiV m d) ∗ (xLoc d ↦{fullShare} xtV m d) ∗ (oLoc d ↦{fullShare} gout (xiV m d) (xtV m d))
      ∗ bigSep restRefs fun b => (d.tc : Thread nD τ).loc b ↦{fullShare} V1 m d (Proc.devRef .tc b)) := by
  rw [unscoped_split]
  rw [V2_of_ne m d (show main_v1 ≠ main_v2 by decide), V2_of_ne m d (show main_arg2 ≠ main_v2 by decide), V2_v2]
  rw [show (bigSep restRefs fun b => (d.tc : Thread nD τ).loc b ↦{fullShare} V2 m d (Proc.devRef .tc b) : sProp 𝕄)
      = bigSep restRefs fun b => (d.tc : Thread nD τ).loc b ↦{fullShare} V1 m d (Proc.devRef .tc b) from
    bigSep_congr fun b hb => by rw [V2_of_ne m d (Finset.ne_of_mem_erase hb)]]
  rfl

/-- What the SparseCore call's handshakes carry in this program. -/
abbrev PM : (K (F := F)).Pay (nD := nD) (Val := Elt F) (Name := ℕ) (U := UU) := P (xiV m) (xtV m) (xoV m)

omit [FloatOps F] in
/-- The tasks' operands, SparseCore by SparseCore, are the targets, the tasks' shares of the table and the result. -/
theorem tasks_eq (xi : (d : Dev nD) → Buf (Elt F) (iLoc d)) (xt : (d : Dev nD) → Buf (Elt F) (xLoc d)) (d : Dev nD) (f : Buf (Elt F) (oLoc d)) :
    (bigSep Finset.univ fun c : Fin ((K (F := F)).nCore 0) => bigSep Finset.univ fun s : Fin 16 => taskPts xi xt d (Fin.cast nCore_zero c, s) f)
      = (iprop((iLoc d ↦{fullShare} xi d) ∗ (bigSep Finset.univ fun x : Fin 2 × Fin 16 => xLoc d ↦{xq x} xt d) ∗ (oLoc d ↦{fullShare} f)) : sProp 𝕄) := by
  rw [iPts_rows, oPts_rows]
  rw [show (bigSep Finset.univ fun c : Fin ((K (F := F)).nCore 0) => bigSep Finset.univ fun s : Fin 16 => taskPts xi xt d (Fin.cast nCore_zero c, s) f)
      = bigSep Finset.univ (fun c : Fin 2 => bigSep Finset.univ fun s : Fin 16 => (taskPts xi xt d (c, s) f : sProp 𝕄)) from rfl]
  rw [← bigSep_univ_prod (fun x : Fin 2 × Fin 16 => (taskPts xi xt d x f : sProp 𝕄)), bigSep_sep', bigSep_sep']

/-- What the tasks are started with: the targets, their shares of the table and the result array. -/
theorem st0_eq (d : Dev nD) : (bigSep Finset.univ fun c : Fin ((K (F := F)).nCore 0) => (PM m).st 0 d c)
    = (iprop((iLoc d ↦{fullShare} xiV m d) ∗ (bigSep Finset.univ fun x : Fin 2 × Fin 16 => xLoc d ↦{xq x} xtV m d) ∗ (oLoc d ↦{fullShare} xoV m d)) : sProp 𝕄) :=
  tasks_eq (xiV m) (xtV m) d (xoV m d)
/-- What the tasks hand back: the targets, their shares of the table and the gathered weights. -/
theorem dn0_eq (d : Dev nD) : (bigSep Finset.univ fun c : Fin ((K (F := F)).nCore 0) => (PM m).dn 0 d c)
    = (iprop((iLoc d ↦{fullShare} xiV m d) ∗ (bigSep Finset.univ fun x : Fin 2 × Fin 16 => xLoc d ↦{xq x} xtV m d) ∗ (oLoc d ↦{fullShare} gout (xiV m d) (xtV m d))) : sProp 𝕄) :=
  tasks_eq (xiV m) (xtV m) d (gout (xiV m d) (xtV m d))

/-! ## The ghost state at launch -/

/-- The pipelines' part of the ghost state. -/
abbrev EP : Emb (UR sig nD τ) (MT nD τ sig (HIx 1) (Elt F) ℕ UU ℕ) := (Emb.inl : Emb (UR sig nD τ) (UR sig nD τ × Counters)).trans embR

/-- The pipelines' part of the ghost state lies in the whole of it. -/
instance EP_landsIn : (EP (F := F)).LandsIn (upEmb : UEmb _ 𝕄) := by unfold EP; infer_instance

/-- The pipelines' staging cells are apart. -/
theorem phinj : Function.Injective (Pipeline.cellOf (nD := nD) (τ := τ) (Pipeline.pin (pcfgs (F := F)) adm)) := launch1.toP.cellOf_inj adm

/-- The ghost state at launch: the handshakes' cells, the pipelines' part and the counters. -/
def u₀ : UU := (initOf (K (F := F)).hsCells (K (F := F)).hsToks,
  (initOf (Pipeline.cells (Pipeline.pin (pcfgs (F := F)) adm) phinj)
    (Pipeline.launchToks (Pipeline.pin (pcfgs (F := F)) adm) phinj), 1))

/-- What the launch leaves device `d` for its two TensorCore calls. -/
def G (d : Dev nD) : sProp 𝕄 :=
  iprop((bigSep Finset.univ fun p => Pipeline.cellsGhost (Pipeline.pin (pcfgs (F := F)) adm) EP p d)
    ∗ bigSep Finset.univ fun p => Pipeline.toksInit (Pipeline.pin (pcfgs (F := F)) adm) EP p d)

omit [FloatOps F] in
/-- A separating product of empty assertions is empty. -/
theorem bigSep_emp' {I : Type} (s : Finset I) : (bigSep s fun _ => iprop(emp)) = (iprop(emp) : sProp 𝕄) := bigSep_emp_const s

/-- The ghost state at launch, taken apart for the threads. -/
theorem hu₀ : (ownU (u₀ (F := F)) : sProp 𝕄)
    ⊢ |={Set.univ}=> iprop(BI.own (EH (initOf (K (F := F)).hsCells (K (F := F)).hsToks)) ∗ (bigSep Finset.univ (G (F := F)))
        ∗ bigSep Finset.univ fun thr : Thread nD τ => bigSep Finset.univ fun q : Fin 1 => (PM m).x q thr) := by
  unfold u₀
  iintro Hu
  ihave H := (ownU_pair (initOf (K (F := F)).hsCells (K (F := F)).hsToks) _) $$ Hu
  icases H with ⟨HH, HR⟩
  ihave H := (own_pair_emb embR _ (1 : Counters)) $$ HR
  icases H with ⟨HP, -⟩
  imod (Pipeline.fund_ghost (Pipeline.pin (pcfgs (F := F)) adm) EP phinj) $$ HP with ⟨Hg, Ht⟩
  imodintro
  isplitl [HH]; · iexact HH
  isplitl [Hg Ht]
  · unfold G
    rw [bigSep_sep']
    isplitl [Hg] <;> iassumption
  rw [show (bigSep Finset.univ fun thr : Thread nD τ => bigSep Finset.univ fun q : Fin 1 => (PM (F := F) m).x q thr) = bigSep Finset.univ fun _ => iprop(emp) from
    bigSep_congr fun _ _ => bigSep_univ_of_subsingleton (0 : Fin 1), bigSep_emp']
  iempintro

/-! ## The TensorCore calls inside the launch's table -/

/-- The first TensorCore call, at the head of nothing. -/
theorem wp_call1 [∀ e, Nonempty (Elt F e)] (d : Dev nD) (Φ : PUnit → sProp 𝕄) :
    iprop(((boundary (d.tc : Thread nD τ) ∗ unscopedBufs d (fun b => V3 m d (Proc.devRef .tc b)) ∗ idle (F := F) d) -∗ Φ ⟨⟩)
        ∗ boundary (d.tc : Thread nD τ) ∗ (unscopedBufs d (fun b => V2 m d (Proc.devRef .tc b)) ∗ idle (F := F) d)
        ∗ levAts (K (F := F)).L (K (F := F)).lev
        ∗ Pipeline.cellsGhost (Pipeline.pin (pcfgs (F := F)) adm) EP 0 d ∗ Pipeline.toksInit (Pipeline.pin (pcfgs (F := F)) adm) EP 0 d)
      ⊢ wp frame (wpE ((K (F := F)).defs (D (F := F))) 𝒱 (SparseCore.T d) none) Set.univ
          (SparseCore.liftProg (Prog.lift (.customCall (Pipeline.entry 0) ()))) Φ := by
  refine BIBase.Entails.trans ?_ ((K (F := F)).wp_liftProg (D (F := F)) 𝒱 (SparseCore.T d) Set.univ none (Prog.lift (.customCall (Pipeline.entry 0) ())) Φ)
  have H := Pipeline.RegionSeg.wp (p := 0) (pcfgs (F := F)) adm (pdats (V2 m) (V4 m)) none phinj EP defs₀ 𝒱₀ (K (F := F)).L (K (F := F)).lev
    (reg1 (V2 m) (V4 m)) d none (fun u hu => nomatch hu) (fun _ => .ret ⟨⟩) Φ
  refine BIBase.Entails.trans ?_ H
  iintro ⟨Hk, Hb, Hpre, Hl, Hg, Ht⟩
  isplitl [Hk]
  · iintro ⟨Hb, Hpost⟩
    rw [wp_ret]
    imodintro
    iapply Hk
    isplitl [Hb]; · iexact Hb
    iapply (Entails.of_eq (show (reg1 (V2 m) (V4 m)).post d = (iprop(unscopedBufs d (fun b => V3 m d (Proc.devRef .tc b)) ∗ idle (F := F) d) : sProp 𝕄) from rfl)); iexact Hpost
  isplitl [Hb]; · iexact Hb
  isplitl [Hpre]
  · iapply (Entails.of_eq (show (iprop(unscopedBufs d (fun b => V2 m d (Proc.devRef .tc b)) ∗ idle (F := F) d) : sProp 𝕄) = (reg1 (V2 m) (V4 m)).pre d from rfl)); iexact Hpre
  isplitl [Hl]; · iexact Hl
  isplitl [Hg] <;> iassumption

/-- The second TensorCore call, at the head of nothing. -/
theorem wp_call2 [∀ e, Nonempty (Elt F e)] (d : Dev nD) (Φ : PUnit → sProp 𝕄) :
    iprop(((boundary (d.tc : Thread nD τ) ∗ unscopedBufs d (fun b => V5 m d (Proc.devRef .tc b)) ∗ idle (F := F) d) -∗ Φ ⟨⟩)
        ∗ boundary (d.tc : Thread nD τ) ∗ (unscopedBufs d (fun b => V4 m d (Proc.devRef .tc b)) ∗ idle (F := F) d)
        ∗ levAts (K (F := F)).L (K (F := F)).lev
        ∗ Pipeline.cellsGhost (Pipeline.pin (pcfgs (F := F)) adm) EP 1 d ∗ Pipeline.toksInit (Pipeline.pin (pcfgs (F := F)) adm) EP 1 d)
      ⊢ wp frame (wpE ((K (F := F)).defs (D (F := F))) 𝒱 (SparseCore.T d) none) Set.univ
          (SparseCore.liftProg (Prog.lift (.customCall (Pipeline.entry 1) ()))) Φ := by
  refine BIBase.Entails.trans ?_ ((K (F := F)).wp_liftProg (D (F := F)) 𝒱 (SparseCore.T d) Set.univ none (Prog.lift (.customCall (Pipeline.entry 1) ())) Φ)
  have H := Pipeline.RegionSeg.wp (p := 1) (pcfgs (F := F)) adm (pdats (V2 m) (V4 m)) none phinj EP defs₀ 𝒱₀ (K (F := F)).L (K (F := F)).lev
    (reg2 (V2 m) (V4 m)) d none (fun u hu => nomatch hu) (fun _ => .ret ⟨⟩) Φ
  refine BIBase.Entails.trans ?_ H
  iintro ⟨Hk, Hb, Hpre, Hl, Hg, Ht⟩
  isplitl [Hk]
  · iintro ⟨Hb, Hpost⟩
    rw [wp_ret]
    imodintro
    iapply Hk
    isplitl [Hb]; · iexact Hb
    iapply (Entails.of_eq (show (reg2 (V2 m) (V4 m)).post d = (iprop(unscopedBufs d (fun b => V5 m d (Proc.devRef .tc b)) ∗ idle (F := F) d) : sProp 𝕄) from rfl)); iexact Hpost
  isplitl [Hb]; · iexact Hb
  isplitl [Hpre]
  · iapply (Entails.of_eq (show (iprop(unscopedBufs d (fun b => V4 m d (Proc.devRef .tc b)) ∗ idle (F := F) d) : sProp 𝕄) = (reg2 (V2 m) (V4 m)).pre d from rfl)); iexact Hpre
  isplitl [Hl]; · iexact Hl
  isplitl [Hg] <;> iassumption

/-! ## @main on the TensorCore -/

/-- What @main leaves: every array of the core at its last value. -/
abbrev FIN (d : Dev nD) : sProp 𝕄 := StableHlo.held (d.tc : Thread nD τ) (ucRefs τ sig) (V6 m d)

omit [FloatOps F] in
/-- The host arrays, as the host operations hold them. -/
theorem unscoped_held (d : Dev nD) (W : Valuation τ sig (Elt F)) :
    (unscopedBufs d (fun b => W (Proc.devRef .tc b)) : sProp 𝕄) = StableHlo.held (d.tc : Thread nD τ) (ucRefs τ sig) W :=
  unscopedBufs_held d W

omit [FloatOps F] in
/-- Once its one call is past, the core owes nothing. -/
theorem Otc_one (d : Dev nD) : (K (F := F)).Otc d 1 = 0 := by
  unfold SparseCore.Cfg.Otc
  exact Finset.sum_eq_zero fun q _ => if_neg (by have := q.isLt; omega)

omit [FloatOps F] in
/-- A separating product over two indices. -/
theorem two_eq (Φ : Fin 2 → sProp 𝕄) : bigSep Finset.univ Φ = iprop(Φ 0 ∗ Φ 1) := BI.bigSep_fin_two Φ

/-- After the targets' reshapes the host arrays are the SparseCore call's operands and the rest. -/
theorem held_V1 (d : Dev nD) : (StableHlo.held (d.tc : Thread nD τ) (ucRefs τ sig) (StableHlo.after ops1 (V0 m d)) : sProp 𝕄)
    = iprop((iLoc d ↦{fullShare} xiV m d) ∗ (xLoc d ↦{fullShare} xtV m d) ∗ (oLoc d ↦{fullShare} xoV m d)
      ∗ bigSep restRefs fun b => (d.tc : Thread nD τ).loc b ↦{fullShare} V1 m d (Proc.devRef .tc b)) :=
  (unscoped_held d (V1 m d)).symm.trans (unscoped_V1 m d)
/-- After the reshapes between the calls the host arrays are at their next contents. -/
theorem held_V4 (d : Dev nD) : (StableHlo.held (d.tc : Thread nD τ) (ucRefs τ sig) (StableHlo.after ops2 (V3 m d)) : sProp 𝕄)
    = unscopedBufs d (fun b => V4 m d (Proc.devRef .tc b)) := (unscoped_held d (V4 m d)).symm

/-- @main on device `d`'s TensorCore: from the launch's arrays to the last values of them all. -/
theorem hmain [∀ e, Nonempty (Elt F e)] (κ : GSem nD τ sig → ℕ) (d : Dev nD) :
    iprop((K (F := F)).ctx EH (PM m) κ ∗ (K (F := F)).tcSt EH d 0 ∗ (K (F := F)).tcRes m ρ d ∗ G d)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [main_eq, show (unscopedBufs d (fun b => m ((d.tc : Thread nD τ).loc b)) : sProp 𝕄) = StableHlo.held (d.tc : Thread nD τ) (ucRefs τ sig) (V0 m d)
    from unscoped_held d (V0 m d)]
  unfold G
  rw [two_eq (fun p => Pipeline.cellsGhost (Pipeline.pin (pcfgs (F := F)) adm) EP p d),
    two_eq (fun p => Pipeline.toksInit (Pipeline.pin (pcfgs (F := F)) adm) EP p d)]
  iintro ⟨#Hctx, Hst, ⟨Hb, Hh, Hts, -⟩, ⟨Hg0, Hg1⟩, Ht0, Ht1⟩
  ihave #Hlv := (SparseCore.Cfg.ctx_levAts κ) $$ Hctx
  -- the targets' reshapes
  iapply (StableHlo.wp_seq 𝒱 none Set.univ d (ucRefs τ sig) _ ops1 ops1_sub ops1_fresh (V0 m d)) $$ [Hb Hh]
  · isplitl [Hb] <;> iassumption
  iintro ⟨Hb, Hh⟩
  ihave Hh := (Entails.of_eq (held_V1 m d)) $$ Hh
  icases Hh with ⟨Hi, Hx, Ho, Hrest⟩
  ihave Hx := (xPts_shares d (xtV m d)).1 $$ Hx
  icases Hx with ⟨Hxr, Hx⟩
  -- the SparseCore call
  rw [wp_bind]
  iapply ((K (F := F)).wp_run (D (F := F)) 𝒱 (EH := EH) (P := PM m) κ d 0) $$ [Hst Hi Hx Ho Hb Hts Hxr Hrest Hg0 Hg1 Ht0 Ht1]
  isplitr; · iexact Hctx
  isplitl [Hst]; · iexact Hst
  isplitl [Hi Hx Ho]
  · rw [st0_eq]
    isplitl [Hi]; · iexact Hi
    isplitl [Hx] <;> iassumption
  iintro ⟨Hst, Hdn⟩
  ihave Hdn' := (Entails.of_eq (dn0_eq m d)) $$ Hdn
  icases Hdn' with ⟨Hi, Hx, Ho⟩
  ihave Hx := (xPts_shares d (xtV m d)).2 $$ [Hxr Hx]; · isplitl [Hxr] <;> iassumption
  ihave Hh := (Entails.of_eq (unscoped_V2 m d).symm) $$ [Hi Hx Ho Hrest]
  · isplitl [Hi]; · iexact Hi
    isplitl [Hx]; · iexact Hx
    isplitl [Ho] <;> iassumption
  ihave Hst := (Entails.of_eq (show ((K (F := F)).tcSt EH d ((0 : Fin 1).val + 1) : sProp 𝕄) = (K (F := F)).tcSt EH d 1 from rfl)) $$ Hst
  unfold SparseCore.Cfg.tcSt
  icases Hst with ⟨⟨%W, %hW, HO⟩, Hst⟩
  ihave HO := (Entails.of_eq (congrArg (fun O => (owes (SparseCore.T d) O W : sProp 𝕄)) (Otc_one (F := F) d))) $$ HO
  -- the first TensorCore call
  rw [wp_bind]
  iapply (wp_call1 m d _)
  isplitr [Hb Hh HO Hg0 Ht0]
  rotate_left
  · isplitl [Hb]; · iexact Hb
    isplitl [Hh HO]
    · isplitl [Hh]; · iexact Hh
      iexists W; isplitr
      · ipureintro; exact hW
      iexact HO
    isplitr; · iexact Hlv
    isplitl [Hg0] <;> iassumption
  iintro ⟨Hb, Hh, HO⟩
  ihave Hh := (Entails.of_eq (unscoped_held d (V3 m d))) $$ Hh
  -- the reshapes between the calls
  iapply (StableHlo.wp_seq 𝒱 none Set.univ d (ucRefs τ sig) _ ops2 ops2_sub ops2_fresh (V3 m d)) $$ [Hb Hh]
  · isplitl [Hb] <;> iassumption
  iintro ⟨Hb, Hh⟩
  ihave Hh := (Entails.of_eq (held_V4 m d)) $$ Hh
  -- the second TensorCore call
  rw [wp_bind]
  iapply (wp_call2 m d _)
  isplitr [Hb Hh HO Hg1 Ht1]
  rotate_left
  · isplitl [Hb]; · iexact Hb
    isplitl [Hh HO]
    · isplitl [Hh] <;> iassumption
    isplitr; · iexact Hlv
    isplitl [Hg1] <;> iassumption
  iintro ⟨Hb, Hh, ⟨%W', %hW', HO⟩⟩
  ihave Hh := (Entails.of_eq (unscoped_held d (V5 m d))) $$ Hh
  -- the division
  iapply (StableHlo.wp_seq 𝒱 none Set.univ d (ucRefs τ sig) _ ops3 ops3_sub ops3_fresh (V5 m d)) $$ [Hb Hh]
  · isplitl [Hb] <;> iassumption
  iintro ⟨Hb, Hh⟩
  rw [wp_pure]
  imodintro
  isplitl [Hst HO]
  · isplitl [HO]
    · iexists W'; isplitr
      · ipureintro; exact hW'
      iapply (Entails.of_eq (congrArg (fun O => (owes (SparseCore.T d) O W' : sProp 𝕄)) (Otc_one (F := F) d)).symm); iexact HO
    iexact Hst
  isplitl [Hh]; · iexact Hh
  isplitl [Hb] <;> iassumption

/-! ## The run -/

/-- The host arrays of a device are at their last contents. -/
def fq (d : Dev nD) (s' : Phys nD τ sig (Elt F)) : Prop := ∀ b ∈ ucRefs τ sig, s'.mem.mem (d, b) = V6 m d b

/-- What the TensorCore ends with says that the host arrays are at their last contents. -/
theorem hfin (d : Dev nD) (s' : Phys nD τ sig (Elt F)) : iprop(FIN m d ∗ SI s') ⊢ (⌜fq m d s'⌝ : sProp 𝕄) := by
  unfold FIN StableHlo.held
  iintro ⟨Hh, HSI⟩
  ihave Hr := (pointsTo_read_all (ucRefs τ sig) (fun b => ((d.tc : Thread nD τ).1, b)) (V6 m d) s') $$ [Hh HSI]
  · isplitl [Hh] <;> iassumption
  icases Hr with ⟨%h, -⟩
  ipureintro; exact h

/-- The state at the end: every array of every core at its last value, every semaphore at zero. -/
def QC : PUnit × MemSt nD τ sig (Elt F) → Prop := fun r =>
  (∀ (c : Dev nD) (b : Ref sig .tc), b.isScoped = false → r.2.mem ((c.tc : Thread nD τ).loc b) = V6 m c (Proc.devRef .tc b)) ∧ r.2.sem = fun _ => 0

/-- The whole program runs, and ends with every host array at its last contents and every counter at zero. -/
theorem run_main [∀ e, Nonempty (Elt F e)] (h : InRange (F := F) (xiV m)) :
    θ_run (defs (F := F)) (threads (F := F)) ⟨m, fun _ => 0, ρ⟩ (QC m) :=
  SparseCore.Cfg.θ_run_sc_quiescent (K := K (F := F)) (D := D (F := F)) (𝒱 := 𝒱) (EH := EH) (P := PM m) (A := ∅) facts v₀
    (fun q hq => match q with | 0 => nomatch hq)
    (fun q _ => match q with | 0 => tileObl (xiV m) (xtV m) (xoV m) facts h)
    (fun q _ => match q with | 0 => SparseCore.Cfg.VecSplit.of_plain (vecSplit (xiV m) (xtV m) (xoV m)))
    m ρ main (G (F := F)) (FIN m) (u₀ (F := F)) (sep_elim_left.trans (hu₀ m)) (hmain m ρ) (fq m) (hfin m) (QC m)
    (fun _ h hz => ⟨fun c b hb => h c _ (Pipeline.devRef_mem_ucRefs hb), hz⟩)

end Cert.Proof.IdealRun
-- ==== Proof.IdealEnds.lean ====
/-
  The run's last values read back: the arguments are as launched; and the targets' range carried to the flattened
  targets the SparseCore call reads.
-/
module

public import proofs.«01_k».proof.Proof.IdealMain
public import Idealize.ShloMosaic.Lib.Pipeline.Value

@[expose] public section

noncomputable section

namespace Cert.Proof.IdealRun

open Cert.KernelIdeal Cert.KernelIdeal.Gen

open Idealize.ShloMosaic Idealize.ShloMosaic.TcCoe
open Idealize.SL.Sem
open Idealize.ShloMosaic.StableHlo
open Idealize.ShloMosaic.Pipeline (afterRegion afterRegion_arr afterRegion_of_not_arr)

variable {F : FTy → Type} [FloatOps F]
variable (m : (ℓ : Loc nD τ sig) → Buf (Elt F) ℓ) (ρ : Dev nD → PrngReg)

/-! ## What each line leaves where it does not write -/

/-- The reshapes of the targets leave every array but their two results as launched. -/
theorem V1_keep (d : Dev nD) {b : Ref sig .tc} (h0 : b ≠ main_v0) (h1 : b ≠ main_v1) :
    V1 m d (Proc.devRef .tc b) = m ((d : Thread nD τ).loc b) := by
  unfold V1 ops1
  rw [after_cons, after_cons, after_nil, reshape_result_ne' (h := h1), reshape_result_ne' (h := h0)]
  rfl

/-- The reshapes between the TensorCore calls leave every array but their four results alone. -/
theorem V4_keep (d : Dev nD) {b : Ref sig .tc} (h4 : b ≠ main_v4) (h5 : b ≠ main_v5) (h6 : b ≠ main_v6) (h7 : b ≠ main_v7) :
    V4 m d (Proc.devRef .tc b) = V3 m d (Proc.devRef .tc b) := by
  unfold V4 ops2
  rw [after_cons, after_cons, after_cons, after_cons, after_nil, reshape_result_ne' (h := h7), reshape_result_ne' (h := h6),
    reshape_result_ne' (h := h5), reshape_result_ne' (h := h4)]

/-- The last operations leave every array but their three results alone. -/
theorem V6_keep (d : Dev nD) {b : Ref sig .tc} (h9 : b ≠ main_v9) (hc : b ≠ main_cst) (h10 : b ≠ main_v10) :
    V6 m d (Proc.devRef .tc b) = V5 m d (Proc.devRef .tc b) := by
  unfold V6 ops3
  rw [after_cons, after_cons, after_cons, after_nil, binary_result_ne' (h := h10), nullary_result_ne' (h := hc), reshape_result_ne' (h := h9)]

/-- The second TensorCore call leaves every array that is no window of it alone. -/
theorem V5_keep (d : Dev nD) {b : Ref sig .tc} (hb : ∀ w, b ≠ Pipeline.arrRef spec2 w) :
    V5 m d (Proc.devRef .tc b) = V4 m d (Proc.devRef .tc b) := afterRegion_of_not_arr (dat2 (V4 m) d) (V4 m d) hb

/-- The first TensorCore call leaves every array that is no window of it alone. -/
theorem V3_keep (d : Dev nD) {b : Ref sig .tc} (hb : ∀ w, b ≠ Pipeline.arrRef spec1 w) :
    V3 m d (Proc.devRef .tc b) = V2 m d (Proc.devRef .tc b) := afterRegion_of_not_arr (dat1 (V2 m) d) (V2 m d) hb

/-- After the first TensorCore call a window's array holds what the call's points left in it. -/
theorem V3_arr (d : Dev nD) (w : Fin cfg1.W) : V3 m d (Proc.devRef .tc (Pipeline.arrRef spec1 w)) = (dat1 (V2 m) d).arrAt w cfg1.N :=
  afterRegion_arr (dat1 (V2 m) d) (V2 m d) launch1.win.arr_inj w
/-- After the second TensorCore call a window's array holds what the call's point left in it. -/
theorem V5_arr (d : Dev nD) (w : Fin cfg2.W) : V5 m d (Proc.devRef .tc (Pipeline.arrRef spec2 w)) = (dat2 (V4 m) d).arrAt w cfg2.N :=
  afterRegion_arr (dat2 (V4 m) d) (V4 m d) launch2.win.arr_inj w

/-- An argument the first TensorCore call does not read keeps its launch contents to the end. -/
theorem V6_arg (d : Dev nD) {b : Ref sig .tc} (hb : b = main_arg1 ∨ b = main_arg2 ∨ b = main_arg3) :
    V6 m d (Proc.devRef .tc b) = m ((d : Thread nD τ).loc b) := by
  have hne : b ≠ main_v0 ∧ b ≠ main_v1 ∧ b ≠ main_v2 ∧ b ≠ main_v4 ∧ b ≠ main_v5 ∧ b ≠ main_v6 ∧ b ≠ main_v7 ∧ b ≠ main_v9 ∧ b ≠ main_cst ∧ b ≠ main_v10 := by
    rcases hb with rfl | rfl | rfl <;> decide
  have ha1 : ∀ w, b ≠ Pipeline.arrRef spec1 w := by rcases hb with rfl | rfl | rfl <;> decide
  have ha2 : ∀ w, b ≠ Pipeline.arrRef spec2 w := by rcases hb with rfl | rfl | rfl <;> decide
  obtain ⟨h0, h1, h2, h4, h5, h6, h7, h9, hc, h10⟩ := hne
  rw [V6_keep m d h9 hc h10, V5_keep m d ha2, V4_keep m d h4 h5 h6 h7, V3_keep m d ha1, V2_of_ne m d h2, V1_keep m d h0 h1]

/-- The logits, an input of the first TensorCore call, keep their launch contents to the end. -/
theorem V6_arg0 (d : Dev nD) : V6 m d (Proc.devRef .tc main_arg0) = m ((d : Thread nD τ).loc main_arg0) := by
  rw [V6_keep m d (by decide) (by decide) (by decide), V5_keep m d (by decide), V4_keep m d (by decide) (by decide) (by decide) (by decide)]
  refine (V3_arr m d 0).trans ?_
  rw [Pipeline.Dat.arrAt_in _ _ rfl]
  exact (V2_of_ne m d (b := main_arg0) (by decide)).trans (V1_keep m d (by decide) (by decide))

/-! ## The targets' range -/

/-- Every target is a class number. -/
def Targets : Prop := ∀ (d : Dev nD) (i : S4x4096.Idx), (m ((d : Thread nD τ).loc main_arg1) i).toNat < 1024

/-- The SparseCore call finds the targets flattened. -/
theorem xiV_eq (d : Dev nD) : xiV m d = shapeCast S16384 (m ((d : Thread nD τ).loc main_arg1) : IVec S4x4096 32) shapeCasts_S4x4096_S16384 := by
  unfold xiV V1 ops1
  rw [after_cons, after_cons, after_nil, reshape_result', reshape_result_ne' (h := by decide)]
  rfl

/-- Where every target is a class number, every flattened target names a row of the table. -/
theorem inRange (h : Targets m) : InRange (F := F) (xiV m) := fun d j => by
  rw [xiV_eq]
  exact h d _

/-- The run of the program: every argument as launched, the result at its last value, every semaphore at zero. -/
theorem run_ends [∀ e, Nonempty (Elt F e)] (h : Targets m) :
    θ_run (defs (F := F)) (threads (F := F)) ⟨m, fun _ => 0, ρ⟩ (fun r => (∀ c : Dev nD,
      r.2.mem ((c : Thread nD τ).loc main_v10) = V6 m c (Proc.devRef .tc main_v10)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3))
      ∧ r.2.sem = fun _ => 0) :=
  (θ_run _ _ _).mono (fun _ hr => ⟨fun c => ⟨hr.1 c main_v10 (by decide), (hr.1 c main_arg0 (by decide)).trans (V6_arg0 m c),
    (hr.1 c main_arg1 (by decide)).trans (V6_arg m c (.inl rfl)), (hr.1 c main_arg2 (by decide)).trans (V6_arg m c (.inr (.inl rfl))),
    (hr.1 c main_arg3 (by decide)).trans (V6_arg m c (.inr (.inr rfl)))⟩, hr.2⟩) (run_main m ρ (inRange m h))

end Cert.Proof.IdealRun
-- ==== Proof.Range.lean ====
/-
  The range precondition read: where it computes to 1, every target is a class number.
-/
module

public import proofs.«01_k».proof.Defs
public import proofs.«01_k».proof.Proof.Gen.Pre_in_range
public import Idealize.ShloMosaic.Lib.ReduceAll
public import Idealize.ShloMosaic.Lib.IdealHost
public import Idealize.ShloMosaic.Lib.Pipeline.Value

@[expose] public section

noncomputable section

namespace Cert.Proof.Domain

open Idealize.ShloMosaic Idealize.ShloMosaic.ValueIdx

/-- A conjunction of two bits that is 1 has both bits 1. -/
theorem andi_one (p q : BitVec 1) (h : IntOp.andi p q = 1#1) : p = 1#1 ∧ q = 1#1 := by
  revert h; revert p q; decide

/-- A word at least 0 and below 1024, both signed, is below 1024 as a natural number. -/
theorem cmpi_word (v : BitVec 32) (h0 : IntOp.cmpi .sge v 0#32 = 1#1) (h1 : IntOp.cmpi .slt v 1024#32 = 1#1) : v.toNat < 1024 := by
  have one (p : Bool) : (BitVec.ofBool p = 1#1) ↔ p = true := by cases p <;> decide
  simp only [IntOp.cmpi, one, BitVec.sle_eq_decide, BitVec.slt_eq_decide,
    decide_eq_true_eq, BitVec.toInt_eq_toNat_cond, BitVec.toNat_ofNat, Nat.reducePow, Nat.reduceMod] at h0 h1
  omega

/-- A scalar has one index. -/
instance : Subsingleton (Cert.Pre_in_range.S_.Idx) := ⟨fun _ _ => funext fun a => a.elim0⟩

/-- The one index of a scalar. -/
def i0 : Cert.Pre_in_range.S_.Idx := fun a => a.elim0

section
open Cert.Pre_in_range

/-- The first precondition: every target is a class number. -/
theorem range_targets {F : FTy → Type} [FloatOps F] (x : FVec F S4x1024x4096 .f32) (tg : IVec S4x4096 32) (ce : FVec F S1024 .f32) (lb : FVec F S10 .f32)
    (h : Cert.Pre_in_range.fn x tg ce lb = fun _ => 1#1) (i : S4x4096.Idx) : (tg i).toNat < 1024 := by
  have e := congrFun h i0
  unfold Cert.Pre_in_range.fn at e
  obtain ⟨e0, e1⟩ := andi_one _ _ e
  exact cmpi_word _ (Host.reduce_andi_all _ _ _ _ _ e0 i) (Host.reduce_andi_all _ _ _ _ _ e1 i)
end

end Cert.Proof.Domain
-- ==== Proof.Domain.lean ====
/-
  The loss's precondition read: where it computes to 1, every target is a class number, every logit is a
  real number, and every product of a class weight and a loss bin is at least zero.
-/
module

public import proofs.«01_k».proof.Defs
public import proofs.«01_k».proof.Proof.Range
public import proofs.«01_k».proof.Proof.Gen.Pre_in_domain
public import Idealize.ShloMosaic.Lib.ReduceAll
public import Idealize.ShloMosaic.Lib.IdealHost
public import Idealize.ShloMosaic.Lib.Pipeline.Value

@[expose] public section

noncomputable section

namespace Cert.Proof.Domain

open Idealize.ShloMosaic Idealize.ShloMosaic.ValueIdx

instance : Subsingleton (Cert.Pre_in_domain.S_.Idx) := ⟨fun _ _ => funext fun a => a.elim0⟩

section
open Cert.Pre_in_domain

/-- The class weights spread over the table of products, at one entry. -/
theorem weight_at {α : Type} (h0 : S1024.BroadcastsInDim S1024x1 ![0]) (h1 : S1024x1.BroadcastsInDim S1024x10 ![0, 1]) (ce : S1024.Idx → α)
    (c : S1024.Idx) (b : S10.Idx) :
    broadcastInDim S1024x10 ![0, 1] h1 (broadcastInDim S1024x1 ![0] h0 ce) (ix2 (c 0) (b 0)) = ce c :=
  (broadcastInDim_apply _ _ _ _ (ix2 (c 0) (0 : Fin 1)) (fun a => by match a with | ⟨0, _⟩ => rfl | ⟨1, _⟩ => rfl)).trans
    (broadcastInDim_apply _ _ _ _ c (fun a => by match a with | ⟨0, _⟩ => rfl))

/-- The loss bins likewise. -/
theorem bin_at {α : Type} (h0 : S10.BroadcastsInDim S1x10 ![1]) (h1 : S1x10.BroadcastsInDim S1024x10 ![0, 1]) (lb : S10.Idx → α)
    (c : S1024.Idx) (b : S10.Idx) :
    broadcastInDim S1024x10 ![0, 1] h1 (broadcastInDim S1x10 ![1] h0 lb) (ix2 (c 0) (b 0)) = lb b :=
  (broadcastInDim_apply _ _ _ _ (ix2 (0 : Fin 1) (b 0)) (fun a => by match a with | ⟨0, _⟩ => rfl | ⟨1, _⟩ => rfl)).trans
    (broadcastInDim_apply _ _ _ _ b (fun a => by match a with | ⟨0, _⟩ => rfl))

/-- The second precondition, taken apart: every target is a class number, every logit's absolute value compares below
    the pattern of +∞, and every product of a class weight and a loss bin compares at least the pattern of 0. -/
theorem domain_split {F : FTy → Type} [FloatOps F] (x : FVec F S4x1024x4096 .f32) (tg : IVec S4x4096 32) (ce : FVec F S1024 .f32) (lb : FVec F S10 .f32)
    (h : Cert.Pre_in_domain.fn x tg ce lb = fun _ => 1#1) :
    (∀ i, (tg i).toNat < 1024)
    ∧ (∀ i, FloatOps.cmpf .olt (FloatOps.hostAbsf (x i)) (FloatOps.ofBits .f32 0x7F800000#32) = 1#1)
    ∧ ∀ (c : S1024.Idx) (b : S10.Idx), FloatOps.cmpf .oge (FloatOps.mulf (ce c) (lb b)) (FloatOps.ofBits .f32 0x00000000#32) = 1#1 := by
  have e := congrFun h i0
  unfold Cert.Pre_in_domain.fn Cert.Pre_in_domain.fn_part1 at e
  obtain ⟨e, e2⟩ := andi_one _ _ e
  obtain ⟨e, e1⟩ := andi_one _ _ e
  obtain ⟨e, e0⟩ := andi_one _ _ e
  refine ⟨fun i => cmpi_word _ (Host.reduce_andi_all _ _ _ _ _ e i) (Host.reduce_andi_all _ _ _ _ _ e0 i),
    fun i => Host.reduce_andi_all _ _ _ _ _ e1 i, fun c b => ?_⟩
  have C := Host.reduce_andi_all _ _ _ _ _ e2 (ix2 (c 0) (b 0))
  change FloatOps.cmpf .oge (FloatOps.mulf (broadcastInDim _ _ _ _ _) (broadcastInDim _ _ _ _ _)) (FloatOps.ofBits .f32 0x00000000#32) = 1#1 at C
  rw [weight_at, bin_at] at C
  exact C

/-- The second precondition at the extended reals. -/
theorem domain_ideal (x : FVec Ideal S4x1024x4096 .f32) (tg : IVec S4x4096 32) (ce : FVec Ideal S1024 .f32) (lb : FVec Ideal S10 .f32)
    (h : Cert.Pre_in_domain.fn x tg ce lb = fun _ => 1#1) :
    (∀ i, (tg i).toNat < 1024) ∧ (∀ i, x i ≠ (⊤ : EReal) ∧ x i ≠ (⊥ : EReal)) ∧ ∀ c b, (0 : EReal) ≤ ce c * lb b := by
  have one (p : Bool) : (BitVec.ofBool p = 1#1) ↔ p = true := by cases p <;> decide
  obtain ⟨h0, h1, h2⟩ := domain_split x tg ce lb h
  have top : Ideal.ofBits .f32 0x7F800000#32 = ⊤ := by simp [Ideal.ofBits, Ideal.ieee]
  have zero : Ideal.ofBits .f32 0x00000000#32 = 0 := by simp [Ideal.ofBits, Ideal.ieee]
  refine ⟨h0, fun i => ?_, fun c b => ?_⟩
  · have e : BitVec.ofBool (decide (max (x i : EReal) (-(x i : EReal)) < Ideal.ofBits .f32 0x7F800000#32)) = 1#1 := h1 i
    rw [top, one, decide_eq_true_eq, max_lt_iff] at e
    refine ⟨fun q => ?_, fun q => ?_⟩
    · rw [q] at e; exact lt_irrefl _ e.1
    · rw [q] at e; exact absurd e.2 (by simp)
  · have e : BitVec.ofBool (decide (Ideal.ofBits .f32 0x00000000#32 ≤ (ce c : EReal) * (lb b : EReal))) = 1#1 := h2 c b
    rw [zero, one, decide_eq_true_eq] at e
    exact e
end

end Cert.Proof.Domain
-- ==== Proof.TokenLoss.lean ====
/-
  One token's loss over the extended reals, written the kernel's way and the reference's way, and their equality: the
  logits real numbers, the target a class number, no product of a class weight and a loss bin negative.
-/
module

public import Idealize.ShloMosaic.Lib.IdealHost

@[expose] public section

noncomputable section

open scoped BigOperators

namespace Cert.Proof.Token

open Idealize.ShloMosaic Idealize.ShloMosaic.ValueIdx

/-! ## The two sides -/

/-- The kernel's logarithm of the sum of exponentials. -/
def kLse (x : Fin 1024 → EReal) : EReal := Ideal.log (∑ c, Ideal.exp (x c))

/-- The kernel's logit of the target: the sum of the logits, every other row replaced by zero. -/
def kAt (x : Fin 1024 → EReal) (t : BitVec 32) : EReal :=
  ∑ c : Fin 1024, Scalar.select (IntOp.cmpi .eq (BitVec.ofNat 32 c.val) t) (x c) (Ideal.ofBits .f32 0x00000000#32)

/-- The kernel's bin of a probability. -/
def kBin (p : EReal) : BitVec 32 :=
  Ideal.fptosi 32 (Ideal.liftRound Int.floor
    (min (Ideal.ofBits .f32 0x3FFFFFF8#32) (max (Ideal.ofBits .f32 0x358637BD#32)
        (Ideal.ofBits .f32 0x40000000#32 * (Ideal.ofBits .f32 0x3F800000#32 - p)))
      * Ideal.ofBits .f32 0x3F000000#32 * Ideal.ofBits .f32 0x41200000#32))

/-- The kernel's combination of one token: the loss `l - a`, scaled by the class weight `w` and the loss bin. -/
def kComb (l a w : EReal) (lb : Fin 10 → EReal) : EReal :=
  (l - a) * Ideal.rsqrt (w * Ideal.sqrt (Ideal.exp (a - l))
    * (∑ b : Fin 10, Scalar.select (IntOp.cmpi .eq (BitVec.ofNat 32 b.val) (kBin (Ideal.exp (a - l)))) (lb b) (Ideal.ofBits .f32 0x00000000#32))
    + Ideal.ofBits .f32 0x2EDBE6FF#32)

/-- The reference's largest logit. -/
def rMax (x : Fin 1024 → EReal) : EReal :=
  max (Ideal.ofBits .f32 0xFF800000#32) ((Finset.univ : Finset (Fin 1024)).fold max (Ideal.ofBits .f32 0xFF800000#32) x)

/-- The reference's sum of exponentials, the largest logit subtracted. -/
def rSum (x : Fin 1024 → EReal) : EReal := Ideal.ofBits .f32 0x00000000#32 + ∑ c, Ideal.exp (x c - rMax x)

/-- The reference's log-probability of class `c`. -/
def rLog (x : Fin 1024 → EReal) (c : Fin 1024) : EReal := (x c - rMax x) - Ideal.log (rSum x)

/-- The reference's probability of class `c`. -/
def rProb (x : Fin 1024 → EReal) (c : Fin 1024) : EReal := Ideal.div (Ideal.exp (x c - rMax x)) (rSum x)

/-- The reference's one-hot target. -/
def rHot (t : BitVec 32) (c : Fin 1024) : EReal := (((IntOp.cmpi .eq t (BitVec.ofNat 32 c.val)).toNat : ℝ) : EReal)

/-- The reference's distance of the probabilities from the one-hot target. -/
def rDist (x : Fin 1024 → EReal) (t : BitVec 32) : EReal :=
  Ideal.ofBits .f32 0x00000000#32 + ∑ c, max (rProb x c - rHot t c) (-(rProb x c - rHot t c))

/-- The reference's bin. -/
def rBin (x : Fin 1024 → EReal) (t : BitVec 32) : BitVec 32 :=
  Ideal.fptosi 32 (Ideal.liftRound Int.floor
    (Ideal.div (min (Ideal.ofBits .f32 0x3FFFFFF8#32) (max (Ideal.ofBits .f32 0x358637BD#32) (rDist x t))) (Ideal.ofBits .f32 0x40000000#32)
      * Ideal.ofBits .f32 0x41200000#32))

/-- The reference's weighted geometric mean of probabilities and target. -/
def rGeo (x : Fin 1024 → EReal) (t : BitVec 32) (ce : Fin 1024 → EReal) : EReal :=
  Ideal.ofBits .f32 0x00000000#32 + ∑ c, ce c * (Ideal.sqrt (rProb x c) * rHot t c)

/-- A bin read from the end where it is negative. -/
def wrap (n : ℕ) (v : BitVec 32) : BitVec 32 := Scalar.select (IntOp.cmpi .slt v 0#32) (IntOp.addi v (BitVec.ofNat 32 n)) v

/-- The reference's loss of one token, its log-probability `g` given. -/
def rComb (g : EReal) (x : Fin 1024 → EReal) (t : BitVec 32) (ce : Fin 1024 → EReal) (lb : Fin 10 → EReal) : EReal :=
  Ideal.div (-g) (Ideal.sqrt (rGeo x t ce * lb ⟨min (wrap 10 (rBin x t)).toInt.toNat 9, by omega⟩ + Ideal.ofBits .f32 0x2EDBE6FF#32))

/-! ## Patterns and words -/

/-- The pattern of the largest logit's start is −∞. -/
theorem bits_neg_top : Ideal.ofBits .f32 0xFF800000#32 = ⊥ := by simp [Ideal.ofBits, Ideal.ieee]

/-- The pattern of zero. -/
theorem bits_zero : Ideal.ofBits .f32 0x00000000#32 = 0 := by simp [Ideal.ofBits, Ideal.ieee]

/-- The pattern of one. -/
theorem bits_one : Ideal.ofBits .f32 0x3F800000#32 = ((1 : ℝ) : EReal) := by
  simp [Ideal.ofBits, Ideal.ieee, -EReal.coe_mul]; norm_num

/-- The pattern of two. -/
theorem bits_two : Ideal.ofBits .f32 0x40000000#32 = ((2 : ℝ) : EReal) := by
  simp [Ideal.ofBits, Ideal.ieee, -EReal.coe_mul]; norm_num

/-- The pattern of one half. -/
theorem bits_half : Ideal.ofBits .f32 0x3F000000#32 = ((1 / 2 : ℝ) : EReal) := by
  simp [Ideal.ofBits, Ideal.ieee, -EReal.coe_mul]; norm_num

/-- The pattern of ten. -/
theorem bits_ten : Ideal.ofBits .f32 0x41200000#32 = ((10 : ℝ) : EReal) := by
  simp [Ideal.ofBits, Ideal.ieee, -EReal.coe_mul]; norm_num

/-- The lower end of the clip is a positive real below 1. -/
theorem bits_lo : ∃ r : ℝ, Ideal.ofBits .f32 0x358637BD#32 = (r : EReal) ∧ 0 ≤ r ∧ r < 1 := by
  refine ⟨8796093 * (2 : ℝ) ^ (-43 : ℤ), ?_, by positivity, by norm_num⟩
  simp [Ideal.ofBits, Ideal.ieee, -EReal.coe_mul]

/-- The upper end of the clip is a real at least 1 and below 2. -/
theorem bits_hi : ∃ r : ℝ, Ideal.ofBits .f32 0x3FFFFFF8#32 = (r : EReal) ∧ 1 ≤ r ∧ r < 2 := by
  refine ⟨16777208 * (2 : ℝ) ^ (-23 : ℤ), ?_, by norm_num, by norm_num⟩
  simp [Ideal.ofBits, Ideal.ieee, -EReal.coe_mul]

/-- The term added under the root is a positive real. -/
theorem bits_eps : ∃ r : ℝ, Ideal.ofBits .f32 0x2EDBE6FF#32 = (r : EReal) ∧ 0 < r := by
  refine ⟨14411519 * (2 : ℝ) ^ (-57 : ℤ), ?_, by positivity⟩
  simp [Ideal.ofBits, Ideal.ieee, -EReal.coe_mul]

/-- The bit of an equality of words. -/
theorem cmpi_eq_one (a b : BitVec 32) : (IntOp.cmpi .eq a b = 1#1) ↔ a = b := by
  have one (p : Bool) : (BitVec.ofBool p = 1#1) ↔ p = true := by cases p <;> decide
  simp only [IntOp.cmpi, one, beq_iff_eq]

/-- A row's word is a target's where the row is the target's number. -/
theorem ofNat_eq_iff {n : ℕ} (hn : n ≤ 2 ^ 32) (c : Fin n) (t : BitVec 32) : BitVec.ofNat 32 c.val = t ↔ c.val = t.toNat := by
  have hc : c.val < 2 ^ 32 := lt_of_lt_of_le c.isLt hn
  rw [← BitVec.toNat_inj, BitVec.toNat_ofNat, Nat.mod_eq_of_lt hc]

/-- A sum of rows, all but the row that `t` names replaced by zero, is that row. -/
theorem sum_select {n : ℕ} (hn : n ≤ 2 ^ 32) (f : Fin n → EReal) (t : BitVec 32) (ht : t.toNat < n) :
    (∑ c : Fin n, Scalar.select (IntOp.cmpi .eq (BitVec.ofNat 32 c.val) t) (f c) (Ideal.ofBits .f32 0x00000000#32)) = f ⟨t.toNat, ht⟩ := by
  rw [Finset.sum_eq_single (⟨t.toNat, ht⟩ : Fin n)]
  · unfold Scalar.select
    rw [if_pos]
    exact (cmpi_eq_one _ _).2 ((ofNat_eq_iff hn _ _).2 rfl)
  · intro c _ hc
    unfold Scalar.select
    rw [if_neg, bits_zero]
    intro h
    exact hc (Fin.ext ((ofNat_eq_iff hn _ _).1 ((cmpi_eq_one _ _).1 h)))
  · intro h; exact absurd (Finset.mem_univ _) h

/-- The kernel's masked sum is the target's logit. -/
theorem kAt_eq (x : Fin 1024 → EReal) (t : BitVec 32) (ht : t.toNat < 1024) : kAt x t = x ⟨t.toNat, ht⟩ :=
  sum_select (by norm_num) x t ht

/-- The one-hot target is 1 at the target and 0 elsewhere. -/
theorem rHot_eq (t : BitVec 32) (ht : t.toNat < 1024) (c : Fin 1024) :
    rHot t c = ((if c = ⟨t.toNat, ht⟩ then 1 else 0 : ℝ) : EReal) := by
  unfold rHot
  by_cases h : c = ⟨t.toNat, ht⟩
  · have e : IntOp.cmpi .eq t (BitVec.ofNat 32 c.val) = 1#1 :=
      (cmpi_eq_one _ _).2 ((ofNat_eq_iff (by norm_num) c t).2 (congrArg Fin.val h)).symm
    rw [e, if_pos h]; simp
  · have e : IntOp.cmpi .eq t (BitVec.ofNat 32 c.val) = 0#1 := eq_zero_of_ne_one fun e =>
      h (Fin.ext ((ofNat_eq_iff (by norm_num) c t).1 ((cmpi_eq_one _ _).1 e).symm))
    rw [e, if_neg h]; simp

/-- The sum of real numbers read as extended reals. -/
theorem coe_sum {ι : Type} (s : Finset ι) (f : ι → ℝ) : (((∑ i ∈ s, f i : ℝ)) : EReal) = ∑ i ∈ s, (f i : EReal) := by
  classical
  induction s using Finset.induction_on with
  | empty => simp
  | insert a s ha ih => rw [Finset.sum_insert ha, Finset.sum_insert ha, EReal.coe_add, ih]

/-- The larger of two reals, read over the extended reals. -/
theorem coe_max (a b : ℝ) : ((max a b : ℝ) : EReal) = max (a : EReal) b := EReal.coe_strictMono.monotone.map_max
/-- The smaller of two reals, read over the extended reals. -/
theorem coe_min (a b : ℝ) : ((min a b : ℝ) : EReal) = min (a : EReal) b := EReal.coe_strictMono.monotone.map_min

/-! ## The two sides at real logits -/

section Reals

variable (y : Fin 1024 → ℝ)

/-- The logits as extended reals. -/
abbrev up : Fin 1024 → EReal := fun c => (y c : EReal)

/-- The sum of the exponentials of the logits. -/
def es : ℝ := ∑ c, Real.exp (y c)

/-- The sum of the exponentials is positive. -/
theorem es_pos : 0 < es y := Finset.sum_pos (fun _ _ => Real.exp_pos _) ⟨0, Finset.mem_univ _⟩

/-- Every exponential is below the sum of them all. -/
theorem exp_lt_es (t : Fin 1024) : Real.exp (y t) < es y := by
  obtain ⟨c, hc⟩ : ∃ c : Fin 1024, c ≠ t := by
    by_cases h : t = 0
    · exact ⟨1, by rw [h]; decide⟩
    · exact ⟨0, fun e => h e.symm⟩
  exact Finset.single_lt_sum hc (Finset.mem_univ _) (Finset.mem_univ _) (Real.exp_pos _) fun _ _ _ => (Real.exp_pos _).le

/-- The probability of class `t`. -/
def q (t : Fin 1024) : ℝ := Real.exp (y t) / es y

/-- Every probability is positive. -/
theorem q_pos (t : Fin 1024) : 0 < q y t := div_pos (Real.exp_pos _) (es_pos y)

/-- Every probability is below one. -/
theorem q_lt_one (t : Fin 1024) : q y t < 1 := (div_lt_one (es_pos y)).2 (exp_lt_es y t)

/-- The probabilities sum to one. -/
theorem q_sum : ∑ c, q y c = 1 := by
  unfold q; rw [← Finset.sum_div]; exact div_self (es_pos y).ne'

/-- The kernel's logarithm of the sum, at real logits. -/
theorem kLse_up : kLse (up y) = ((Real.log (es y) : ℝ) : EReal) := by
  unfold kLse
  have e : (∑ c, Ideal.exp (up y c)) = ((es y : ℝ) : EReal) := by
    unfold es; rw [coe_sum]; rfl
  rw [e, Ideal.log_coe, if_neg (not_le.2 (es_pos y))]

/-- The kernel's logit of the target, at real logits. -/
theorem kAt_up (t : BitVec 32) (ht : t.toNat < 1024) : kAt (up y) t = ((y ⟨t.toNat, ht⟩ : ℝ) : EReal) := kAt_eq _ t ht

/-- The kernel's probability is the probability. -/
theorem kProb_up (t : Fin 1024) : Ideal.exp ((y t : EReal) - ((Real.log (es y) : ℝ) : EReal)) = ((q y t : ℝ) : EReal) := by
  rw [← EReal.coe_sub, Ideal.exp_coe, Real.exp_sub, Real.exp_log (es_pos y)]; rfl

/-- The largest of real logits is real. -/
theorem rMax_up : ∃ μ : ℝ, rMax (up y) = (μ : EReal) := by
  have h1 : rMax (up y) < ⊤ := by
    unfold rMax
    rw [bits_neg_top, max_lt_iff, Finset.fold_max_lt]
    exact ⟨bot_lt_top, bot_lt_top, fun c _ => EReal.coe_lt_top _⟩
  have h2 : ⊥ < rMax (up y) := by
    unfold rMax
    rw [bits_neg_top, lt_max_iff, Finset.lt_fold_max]
    exact Or.inr (Or.inr ⟨0, Finset.mem_univ _, EReal.bot_lt_coe _⟩)
  exact ⟨(rMax (up y)).toReal, (EReal.coe_toReal h1.ne h2.ne').symm⟩

/-- The reference's shifted sum is the sum divided by the largest exponential. -/
theorem rSum_up (μ : ℝ) (hμ : rMax (up y) = (μ : EReal)) : rSum (up y) = ((es y / Real.exp μ : ℝ) : EReal) := by
  unfold rSum
  rw [hμ, bits_zero, zero_add]
  have e : ∀ c, Ideal.exp (up y c - (μ : EReal)) = ((Real.exp (y c) / Real.exp μ : ℝ) : EReal) := fun c => by
    show Ideal.exp ((y c : EReal) - (μ : EReal)) = _
    rw [← EReal.coe_sub, Ideal.exp_coe, Real.exp_sub]
  rw [Finset.sum_congr rfl fun c _ => e c, ← coe_sum, ← Finset.sum_div]; rfl

/-- The reference's log-probability is the logit minus the kernel's logarithm. -/
theorem rLog_up (c : Fin 1024) : rLog (up y) c = ((y c - Real.log (es y) : ℝ) : EReal) := by
  obtain ⟨μ, hμ⟩ := rMax_up y
  unfold rLog
  rw [rSum_up y μ hμ, hμ, Ideal.log_coe, if_neg (not_le.2 (div_pos (es_pos y) (Real.exp_pos _))),
    Real.log_div (es_pos y).ne' (Real.exp_pos _).ne', Real.log_exp]
  show (y c : EReal) - (μ : EReal) - _ = _
  rw [← EReal.coe_sub, ← EReal.coe_sub]
  refine congrArg Real.toEReal ?_; ring

/-- The reference's probability is the probability. -/
theorem rProb_up (c : Fin 1024) : rProb (up y) c = ((q y c : ℝ) : EReal) := by
  obtain ⟨μ, hμ⟩ := rMax_up y
  have hs : (0 : ℝ) < es y / Real.exp μ := div_pos (es_pos y) (Real.exp_pos _)
  unfold rProb Ideal.div
  rw [rSum_up y μ hμ, hμ, if_neg (by rw [← EReal.coe_zero, EReal.coe_eq_coe_iff]; exact hs.ne')]
  show Ideal.exp ((y c : EReal) - (μ : EReal)) * _ = _
  rw [← EReal.coe_sub, Ideal.exp_coe, ← EReal.coe_inv, ← EReal.coe_mul, Real.exp_sub]
  refine congrArg Real.toEReal ?_
  unfold q
  have h1 := (es_pos y).ne'
  have h2 := (Real.exp_pos μ).ne'
  field_simp

/-- The distance of the probabilities from the one-hot target is twice the missing probability. -/
theorem rDist_up (t : BitVec 32) (ht : t.toNat < 1024) : rDist (up y) t = ((2 * (1 - q y ⟨t.toNat, ht⟩) : ℝ) : EReal) := by
  unfold rDist
  rw [bits_zero, zero_add]
  set T : Fin 1024 := ⟨t.toNat, ht⟩ with hT
  have e : ∀ c, max (rProb (up y) c - rHot t c) (-(rProb (up y) c - rHot t c))
      = ((q y c + (if c = T then 1 - 2 * q y c else 0) : ℝ) : EReal) := fun c => by
    rw [rProb_up, rHot_eq t ht, ← EReal.coe_sub, ← EReal.coe_neg, ← coe_max]
    congr 1
    by_cases h : c = T
    · rw [if_pos h, if_pos h, max_eq_right (by have := q_lt_one y c; linarith)]; ring
    · rw [if_neg h, if_neg h, max_eq_left (by have := q_pos y c; linarith)]; ring
  rw [Finset.sum_congr rfl fun c _ => e c, ← coe_sum, Finset.sum_add_distrib, q_sum, Finset.sum_ite_eq' Finset.univ T, if_pos (Finset.mem_univ _)]
  congr 1; ring

/-- The clipped distance, a real number in `[0, 2)`. -/
theorem clip_up (d : ℝ) : ∃ z : ℝ, min (Ideal.ofBits .f32 0x3FFFFFF8#32) (max (Ideal.ofBits .f32 0x358637BD#32) (d : EReal)) = (z : EReal) ∧ 0 ≤ z ∧ z < 2 := by
  obtain ⟨lo, e0, l0, l1⟩ := bits_lo
  obtain ⟨hi, e1, h0, h1⟩ := bits_hi
  refine ⟨min hi (max lo d), by rw [e0, e1, coe_min, coe_max], le_min (by linarith) (le_max_of_le_left l0), lt_of_le_of_lt (min_le_left _ _) h1⟩

/-- A real in `[0, 10)`, rounded down and converted to a word, is a bin's number. -/
theorem bin_word (w : ℝ) (h0 : 0 ≤ w) (h1 : w < 10) :
    ∃ n : ℕ, n < 10 ∧ Ideal.fptosi 32 (Ideal.liftRound Int.floor (w : EReal)) = BitVec.ofNat 32 n := by
  have f0 : 0 ≤ ⌊w⌋ := Int.floor_nonneg.2 h0
  have f1 : ⌊w⌋ < 10 := Int.floor_lt.2 (by exact_mod_cast h1)
  obtain ⟨n, hn⟩ := Int.eq_ofNat_of_zero_le f0
  refine ⟨n, by omega, ?_⟩
  rw [Ideal.liftRound_coe]
  show BitVec.ofInt 32 (max _ (min _ (if (0 : ℝ) ≤ ((⌊w⌋ : ℤ) : ℝ) then ⌊((⌊w⌋ : ℤ) : ℝ)⌋ else _))) = _
  rw [if_pos (by exact_mod_cast f0), Int.floor_intCast, hn, min_eq_right (by norm_num; omega), max_eq_right (by norm_num)]
  exact BitVec.ofInt_natCast 32 n

/-- The two bins are one, and it is a bin's number. -/
theorem bins_up (t : BitVec 32) (ht : t.toNat < 1024) :
    ∃ n : ℕ, n < 10 ∧ kBin ((q y ⟨t.toNat, ht⟩ : ℝ) : EReal) = BitVec.ofNat 32 n ∧ rBin (up y) t = BitVec.ofNat 32 n := by
  obtain ⟨z, ez, z0, z2⟩ := clip_up (2 * (1 - q y ⟨t.toNat, ht⟩))
  obtain ⟨n, hn, e⟩ := bin_word (z * (1 / 2) * 10) (by positivity) (by linarith)
  refine ⟨n, hn, ?_, ?_⟩
  · unfold kBin
    rw [bits_two, bits_one, bits_half, bits_ten, ← EReal.coe_sub, ← EReal.coe_mul, ez, ← EReal.coe_mul, ← EReal.coe_mul, e]
  · unfold rBin
    rw [rDist_up y t ht, ez, bits_two, bits_ten]
    unfold Ideal.div
    rw [if_neg (by rw [← EReal.coe_zero, EReal.coe_eq_coe_iff]; norm_num), ← EReal.coe_inv, ← EReal.coe_mul, ← EReal.coe_mul,
      show z * 2⁻¹ * 10 = z * (1 / 2) * 10 by ring, e]

/-- The reference's weighted geometric mean is the target's term. -/
theorem rGeo_up (t : BitVec 32) (ht : t.toNat < 1024) (ce : Fin 1024 → EReal) :
    rGeo (up y) t ce = ce ⟨t.toNat, ht⟩ * ((Real.sqrt (q y ⟨t.toNat, ht⟩) : ℝ) : EReal) := by
  unfold rGeo
  rw [bits_zero, zero_add, Finset.sum_eq_single (⟨t.toNat, ht⟩ : Fin 1024)]
  · rw [rProb_up, rHot_eq t ht, if_pos rfl, EReal.coe_one, mul_one, Ideal.sqrt_coe, if_neg (not_lt.2 (q_pos y _).le)]
  · intro c _ hc
    rw [rHot_eq t ht, if_neg hc, EReal.coe_zero, mul_zero, mul_zero]
  · intro h; exact absurd (Finset.mem_univ _) h

end Reals

/-- A real divided by the root of a positive extended real is the product with the reciprocal root. -/
theorem div_sqrt (a : ℝ) (d : EReal) (hd : 0 < d) : Ideal.div (a : EReal) (Ideal.sqrt d) = (a : EReal) * Ideal.rsqrt d := by
  induction d with
  | bot => exact absurd hd (by simp)
  | top =>
    unfold Ideal.div
    rw [Ideal.sqrt_top, Ideal.rsqrt_top, if_neg (by simp), EReal.inv_top]
  | coe r =>
    have hr : 0 < r := EReal.coe_pos.1 hd
    have hs : 0 < Real.sqrt r := Real.sqrt_pos.2 hr
    unfold Ideal.div
    rw [Ideal.sqrt_coe, Ideal.rsqrt_coe, if_neg (not_lt.2 hr.le), if_neg (not_lt.2 hr.le), if_neg hr.ne',
      if_neg (by rw [← EReal.coe_zero, EReal.coe_eq_coe_iff]; exact hs.ne'), EReal.coe_inv]

/-- A bin number below ten is read from the front, and is not clamped. -/
theorem wrap_bin (n : ℕ) (hn : n < 10) : min (wrap 10 (BitVec.ofNat 32 n)).toInt.toNat 9 = n := by
  interval_cases n <;> decide

/-- ONE TOKEN'S LOSS, both ways. -/
theorem token_eq (y : Fin 1024 → ℝ) (t : BitVec 32) (ht : t.toNat < 1024) (ce : Fin 1024 → EReal) (lb : Fin 10 → EReal)
    (h : ∀ c b, 0 ≤ ce c * lb b) :
    kComb (kLse (up y)) (kAt (up y) t) (ce ⟨t.toNat, ht⟩) lb = rComb (rLog (up y) ⟨t.toNat, ht⟩) (up y) t ce lb := by
  obtain ⟨n, hn, e0, e1⟩ := bins_up y t ht
  obtain ⟨ε, e2, hε⟩ := bits_eps
  unfold kComb rComb
  have hb : (⟨min (wrap 10 (rBin (up y) t)).toInt.toNat 9, by omega⟩ : Fin 10) = ⟨n, hn⟩ :=
    Fin.ext (by show min (wrap 10 (rBin (up y) t)).toInt.toNat 9 = n; rw [e1, wrap_bin n hn])
  have hk : (BitVec.ofNat 32 n).toNat = n := by rw [BitVec.toNat_ofNat]; exact Nat.mod_eq_of_lt (by omega)
  have hs : (∑ b : Fin 10, Scalar.select (IntOp.cmpi .eq (BitVec.ofNat 32 b.val) (BitVec.ofNat 32 n)) (lb b) (Ideal.ofBits .f32 0x00000000#32)) = lb ⟨n, hn⟩ :=
    (sum_select (by norm_num) lb (BitVec.ofNat 32 n) (by rw [hk]; exact hn)).trans (congrArg lb (Fin.ext hk))
  rw [hb, kLse_up, kAt_up y t ht, kProb_up, e0, hs, rGeo_up y t ht, rLog_up, e2, Ideal.sqrt_coe, if_neg (not_lt.2 (q_pos y _).le),
    ← EReal.coe_sub, ← EReal.coe_neg, div_sqrt]
  · congr 2; ring
  · have hn0 : 0 ≤ ce ⟨t.toNat, ht⟩ * ((Real.sqrt (q y ⟨t.toNat, ht⟩) : ℝ) : EReal) * lb ⟨n, hn⟩ := by
      rw [mul_right_comm]
      exact mul_nonneg (h _ _) (EReal.coe_nonneg.2 (Real.sqrt_nonneg _))
    exact lt_of_lt_of_le (EReal.coe_pos.2 hε) (le_add_of_nonneg_left hn0)

end Cert.Proof.Token
-- ==== Proof.IdealValue.lean ====
/-
  The kernel's result over the extended reals: the first TensorCore call's two arrays, the gathered weights and the
  second call's sum, each read at a token.
-/
module

public import proofs.«01_k».proof.Proof.IdealEnds
public import proofs.«01_k».proof.Proof.TokenLoss
public import Idealize.ShloMosaic.Lib.Pipeline.ValueKit.Geometry

@[expose] public section

noncomputable section

open scoped BigOperators

namespace Cert.Proof.KernelValue

open Cert.KernelIdeal Cert.KernelIdeal.Gen
open Idealize.ShloMosaic Idealize.ShloMosaic.TcCoe Idealize.ShloMosaic.ValueIdx Idealize.ShloMosaic.StableHlo
open Idealize.ShloMosaic.Pipeline (Dat)
open Cert.Proof Cert.Proof.IdealRun

/-! ## The blocks' arithmetic at an index -/

/-- The entries of a block's column. -/
theorem lift1 (c k : Fin 1024) : reduces_S1024x1024_S1024.lift (ix1 k) c = ix2 c k := by
  funext a
  match a with
  | ⟨0, _⟩ => rfl
  | ⟨1, _⟩ => rfl

/-- A sum over the classes, at a column. -/
theorem sum1 (x : FVec Ideal S1024x1024 .f32) (h : S1024x1024.Reduces [0] S1024) (hφ : FKind.Formats .f32)
    (hacc : (0x00000000#32 : BitVec (FTy.bits .f32)) = FKind.add.neutral .f32 hφ) (k : Fin 1024) :
    multiReduction .add [0] S1024 x 0x00000000#32 h hφ hacc (ix1 k) = ∑ c : Fin 1024, x (ix2 c k) :=
  (Ideal.multiReduction_add_single _ _ _ _ _ _).trans (Finset.sum_congr rfl fun c _ => congrArg x (lift1 c k))

/-- The block of logits without its unit axis. -/
theorem pay1_apply (x : Vec Ideal S1x1024x1024 .f32) (c k : Fin 1024) : k1_pay1 x (ix2 c k) = x (ix3 0 c k) := by
  unfold k1_pay1
  exact shapeCast_apply _ _ _ _ (by rw [Shape.rowMajor_val_three, Shape.rowMajor_val_two]; simp)

/-- A row of the first call's columns, read out of the column sums. -/
theorem row_apply (x : FVec Ideal S1x1024 .f32) (k : Fin 1024) :
    shapeCast S1x1x1024 x shapeCasts_S1x1024_S1x1x1024 (ix3 0 0 k) = x (ix2 0 k) :=
  shapeCast_apply _ _ _ _ (by rw [Shape.rowMajor_val_three, Shape.rowMajor_val_two]; simp)

/-- A row given a unit axis. -/
theorem line_apply (x : FVec Ideal S1024 .f32) (k : Fin 1024) :
    shapeCast S1x1024 x shapeCasts_S1024_S1x1024 (ix2 0 k) = x (ix1 k) :=
  shapeCast_apply _ _ _ _ (by rw [Shape.rowMajor_val_two, Shape.rowMajor_val_one]; simp)

/-- The first result block holds the logarithm of the sum of each column's exponentials. -/
theorem pay3_apply (x : Vec Ideal S1x1024x1024 .f32) (k : Fin 1024) :
    k1_pay3 x (ix3 0 0 k) = Token.kLse (fun c => x (ix3 0 c k)) := by
  unfold k1_pay3 Token.kLse
  rw [row_apply]
  refine congrArg Ideal.log ?_
  rw [line_apply]
  refine (sum1 _ _ _ _ k).trans ?_
  refine Finset.sum_congr rfl fun c _ => ?_
  exact congrArg Ideal.exp (pay1_apply x c k)

/-- The second result block holds the logit of each column's target. -/
theorem pay2_apply (x : Vec Ideal S1x1024x1024 .f32) (g : Vec Ideal S1x1x1024 .i32) (k : Fin 1024) :
    k1_pay2 x g (ix3 0 0 k) = Token.kAt (fun c => x (ix3 0 c k)) (g (ix3 0 0 k)) := by
  unfold k1_pay2 Token.kAt
  rw [row_apply, line_apply]
  refine (sum1 _ _ _ _ k).trans ?_
  refine Finset.sum_congr rfl fun c _ => ?_
  rw [select_apply, pay1_apply]
  refine congrArg (fun w : BitVec 1 => Scalar.select w (x (ix3 0 c k)) (Ideal.ofBits .f32 0x00000000#32)) ?_
  refine congrArg₂ (IntOp.cmpi .eq) ?_ ?_
  · exact iota_single_apply _ _ _ _ _ _
  · rw [broadcastTo_apply _ _ (ix2 c k) (ix2 0 k) (fun a => by match a with | ⟨0, _⟩ => rfl | ⟨1, _⟩ => rfl)]
    exact shapeCast_apply _ _ _ _ (by rw [Shape.rowMajor_val_three, Shape.rowMajor_val_two]; simp)

/-- The entries of a token's loss bins. -/
theorem lift2 (b : Fin 10) (j : Fin 16384) : reduces_S10x16384_S16384.lift (ix1 j) b = ix2 b j := by
  funext a
  match a with
  | ⟨0, _⟩ => rfl
  | ⟨1, _⟩ => rfl

/-- The entries of the row of tokens. -/
theorem lift3 (j : Fin 16384) : reduces_S1x16384_S1.lift (ix1 0) j = ix2 0 j := by
  funext a
  match a with
  | ⟨0, _⟩ => rfl
  | ⟨1, _⟩ => rfl

/-- A sum over the loss bins, at a token. -/
theorem sum2 (x : FVec Ideal S10x16384 .f32) (h : S10x16384.Reduces [0] S16384) (hφ : FKind.Formats .f32)
    (hacc : (0x00000000#32 : BitVec (FTy.bits .f32)) = FKind.add.neutral .f32 hφ) (j : Fin 16384) :
    multiReduction .add [0] S16384 x 0x00000000#32 h hφ hacc (ix1 j) = ∑ b : Fin 10, x (ix2 b j) :=
  (Ideal.multiReduction_add_single _ _ _ _ _ _).trans (Finset.sum_congr rfl fun b _ => congrArg x (lift2 b j))

/-- A sum over the tokens. -/
theorem sum3 (x : FVec Ideal S1x16384 .f32) (h : S1x16384.Reduces [1] S1) (hφ : FKind.Formats .f32)
    (hacc : (0x00000000#32 : BitVec (FTy.bits .f32)) = FKind.add.neutral .f32 hφ)  :
    multiReduction .add [1] S1 x 0x00000000#32 h hφ hacc (ix1 0) = ∑ j : Fin 16384, x (ix2 0 j) :=
  (Ideal.multiReduction_add_single _ _ _ _ _ _).trans (Finset.sum_congr rfl fun j _ => congrArg x (lift3 j))

/-- The second call's sum over the tokens. -/
theorem comb_apply (l a w : Vec Ideal S1x16384 .f32) (lb : Vec Ideal S10x1 .f32) :
    k2_pay2 l a w lb (ix1 0)
      = ∑ j : Fin 16384, Token.kComb (l (ix2 0 j)) (a (ix2 0 j)) (w (ix2 0 j)) (fun b => lb (ix2 b 0)) := by
  unfold k2_pay2
  simp only [shapeCast_self]
  refine (sum3 _ _ _ _).trans ?_
  refine Finset.sum_congr rfl fun j _ => ?_
  unfold Token.kComb
  refine congrArg (fun y : EReal => (l (ix2 0 j) - a (ix2 0 j)) * Ideal.rsqrt (w (ix2 0 j) * Ideal.sqrt (Ideal.exp (a (ix2 0 j) - l (ix2 0 j))) * y + Ideal.ofBits .f32 0x2EDBE6FF#32)) ?_
  refine (shapeCast_apply _ _ (ix2 0 j) (ix1 j) (by rw [Shape.rowMajor_val_two, Shape.rowMajor_val_one]; simp)).trans ?_
  refine (sum2 _ _ _ _ j).trans ?_
  refine Finset.sum_congr rfl fun b _ => ?_
  rw [select_apply, broadcastTo_apply _ _ (ix2 b j) (ix2 b 0) (fun a => by match a with | ⟨0, _⟩ => rfl | ⟨1, _⟩ => rfl)]
  refine congrArg (fun v : BitVec 1 => Scalar.select v (lb (ix2 b 0)) (Ideal.ofBits .f32 0x00000000#32)) ?_
  refine congrArg₂ (IntOp.cmpi .eq) ?_ ?_
  · exact iota_single_apply _ _ _ _ _ _
  · rw [broadcastTo_apply _ _ (ix2 b j) (ix2 0 j) (fun a => by match a with | ⟨0, _⟩ => rfl | ⟨1, _⟩ => rfl)]
    rfl

/-! ## The first call's arrays -/

section Rows

variable (V : Dev nD → Valuation τ sig (Elt Ideal)) (d : Dev nD)

/-- The logits the first call reads. -/
abbrev lgA : Vec Ideal S4x1024x4096 .f32 := V d (Proc.devRef .tc main_arg0)
/-- The targets the first call reads. -/
abbrev tgA : Vec Ideal S4x1x4096 .i32 := V d (Proc.devRef .tc main_v0)

/-- The grid's point reading the block of coordinates `(b, 0, t)`. -/
theorem index1_0 : ∀ t : Fin grid1.N, win1_0.index t = ![(grid1.coords t 0).val, 0, (grid1.coords t 1).val] := by decide +kernel
/-- The targets' window lies at the same block. -/
theorem index1_1 : ∀ t : Fin grid1.N, win1_1.index t = ![(grid1.coords t 0).val, 0, (grid1.coords t 1).val] := by decide +kernel
/-- The first result's window likewise. -/
theorem index1_2 : ∀ t : Fin grid1.N, win1_2.index t = ![(grid1.coords t 0).val, 0, (grid1.coords t 1).val] := by decide +kernel
/-- The second result's window likewise. -/
theorem index1_3 : ∀ t : Fin grid1.N, win1_3.index t = ![(grid1.coords t 0).val, 0, (grid1.coords t 1).val] := by decide +kernel

/-- An index of a block of one row. -/
theorem row_eq (y : S1x1x1024.Idx) : y = ix3 (n0 := 1) (n1 := 1) (n2 := 1024) 0 0 (y 2) := by
  funext a
  match a with
  | ⟨0, _⟩ => exact Subsingleton.elim (α := Fin 1) _ _
  | ⟨1, _⟩ => exact Subsingleton.elim (α := Fin 1) _ _
  | ⟨2, _⟩ => rfl

/-- The block of logits at a point, at an index. -/
theorem lg_at (t : Fin cfg1.N) (y : S1x1024x1024.Idx) : lg1 V d t y = lgA V d ((win1_0.blk t).view.emb y) := rfl

/-- The row of targets at a point, at an index. -/
theorem tg_at (t : Fin cfg1.N) (y : S1x1x1024.Idx) : tg1 V d t y = tgA V d ((win1_1.blk t).view.emb y) := rfl

/-- The logits' block at a point lies over the columns of result window 2's block. -/
theorem over_2 (t : Fin cfg1.N) (c k : Fin 1024) : (win1_0.blk t).view.emb (ix3 0 c k)
    = (ix3 ((win1_2.blk t).view.emb (ix3 0 0 k) 0) c ((win1_2.blk t).view.emb (ix3 0 0 k) 2) : S4x1024x4096.Idx) := by
  funext a
  refine Fin.ext ?_
  match a with
  | ⟨0, _⟩ =>
    show ((win1_0.blk t).view.emb (ix3 0 c k) 0 : ℕ) = ((win1_2.blk t).view.emb (ix3 0 0 k) 0 : ℕ)
    blk_simp [index1_0, index1_2]
  | ⟨1, _⟩ =>
    show ((win1_0.blk t).view.emb (ix3 0 c k) 1 : ℕ) = c.val
    blk_simp [index1_0]
    rfl
  | ⟨2, _⟩ =>
    show ((win1_0.blk t).view.emb (ix3 0 c k) 2 : ℕ) = ((win1_2.blk t).view.emb (ix3 0 0 k) 2 : ℕ)
    blk_simp [index1_0, index1_2]
    rfl

/-- The logits' block at a point lies over the columns of result window 3's block. -/
theorem over_3 (t : Fin cfg1.N) (c k : Fin 1024) : (win1_0.blk t).view.emb (ix3 0 c k)
    = (ix3 ((win1_3.blk t).view.emb (ix3 0 0 k) 0) c ((win1_3.blk t).view.emb (ix3 0 0 k) 2) : S4x1024x4096.Idx) := by
  funext a
  refine Fin.ext ?_
  match a with
  | ⟨0, _⟩ =>
    show ((win1_0.blk t).view.emb (ix3 0 c k) 0 : ℕ) = ((win1_3.blk t).view.emb (ix3 0 0 k) 0 : ℕ)
    blk_simp [index1_0, index1_3]
  | ⟨1, _⟩ =>
    show ((win1_0.blk t).view.emb (ix3 0 c k) 1 : ℕ) = c.val
    blk_simp [index1_0]
    rfl
  | ⟨2, _⟩ =>
    show ((win1_0.blk t).view.emb (ix3 0 c k) 2 : ℕ) = ((win1_3.blk t).view.emb (ix3 0 0 k) 2 : ℕ)
    blk_simp [index1_0, index1_3]
    rfl

/-- THE FIRST CALL'S FIRST RESULT: the logarithm of the sum of every token's exponentials. -/
theorem lse_final : (dat1 V d).arrAt 2 cfg1.N = fun i => Token.kLse (fun c => lgA V d (ix3 (i 0) c (i 2))) := by
  refine (dat1 V d).arrAt_eq_of_covers 2 _ (by decide +kernel) fun t hf y => ?_
  blk_simp
  rw [after1_2]
  rw [row_eq y]
  refine (pay3_apply _ (y 2)).trans ?_
  refine congrArg Token.kLse (funext fun c => ?_)
  refine (lg_at V d t _).trans (congrArg (lgA V d) ?_)
  exact over_2 t c (y 2)

/-- THE FIRST CALL'S SECOND RESULT: the logit of every token's target. -/
theorem at_final : (dat1 V d).arrAt 3 cfg1.N = fun i => Token.kAt (fun c => lgA V d (ix3 (i 0) c (i 2))) (tgA V d i) := by
  refine (dat1 V d).arrAt_eq_of_covers 3 _ (by decide +kernel) fun t hf y => ?_
  blk_simp
  rw [after1_3]
  rw [row_eq y]
  refine (pay2_apply _ _ (y 2)).trans ?_
  refine congrArg₂ Token.kAt (funext fun c => ?_) ?_
  · refine (lg_at V d t _).trans (congrArg (lgA V d) ?_)
    exact over_3 t c (y 2)
  · refine (tg_at V d t _).trans (congrArg (tgA V d) ?_)
    blk_ext [index1_1, index1_3]

end Rows

end Cert.Proof.KernelValue

end
-- ==== Proof.LossValue.lean ====
/-
  The kernel's result over the extended reals: the contents of every array from the launch to the end, and the loss
  as a sum over the tokens.
-/
module

public import proofs.«01_k».proof.Proof.IdealValue

@[expose] public section

noncomputable section

open scoped BigOperators

namespace Cert.Proof.KernelValue

open Cert.KernelIdeal Cert.KernelIdeal.Gen
open Idealize.ShloMosaic Idealize.ShloMosaic.TcCoe Idealize.ShloMosaic.ValueIdx Idealize.ShloMosaic.StableHlo
open Idealize.ShloMosaic.Pipeline (Dat)
open Cert.Proof Cert.Proof.IdealRun

/-! ## The second call's result -/

section Call
variable (V : (d : Dev nD) → Valuation τ sig (Elt Ideal)) (d : Dev nD)

/-- The first window of the second call lies at block (0, 0). -/
theorem index2_0 : ∀ t, win2_0.index t = ![0, 0] := by decide +kernel
/-- The second window likewise. -/
theorem index2_1 : ∀ t, win2_1.index t = ![0, 0] := by decide +kernel
/-- The third window likewise. -/
theorem index2_2 : ∀ t, win2_2.index t = ![0, 0] := by decide +kernel
/-- The fourth window likewise. -/
theorem index2_3 : ∀ t, win2_3.index t = ![0, 0] := by decide +kernel
/-- The result's window likewise. -/
theorem index2_4 : ∀ t, win2_4.index t = ![0, 0] := by decide +kernel

/-- The second call reads the whole array of log-sums. -/
theorem in2_0_eq (t : Fin cfg2.N) : in2_0 V d t = V d (Proc.devRef .tc main_v4) := by
  funext y
  refine congrArg (V d (Proc.devRef .tc main_v4)) (?_ : (win2_0.blk t).view.emb y = y)
  blk_ext [index2_0]

/-- The second call reads the whole array of target logits. -/
theorem in2_1_eq (t : Fin cfg2.N) : in2_1 V d t = V d (Proc.devRef .tc main_v5) := by
  funext y
  refine congrArg (V d (Proc.devRef .tc main_v5)) (?_ : (win2_1.blk t).view.emb y = y)
  blk_ext [index2_1]

/-- The second call reads the whole array of gathered weights. -/
theorem in2_2_eq (t : Fin cfg2.N) : in2_2 V d t = V d (Proc.devRef .tc main_v6) := by
  funext y
  refine congrArg (V d (Proc.devRef .tc main_v6)) (?_ : (win2_2.blk t).view.emb y = y)
  blk_ext [index2_2]

/-- The second call reads the whole array of loss bins. -/
theorem in2_3_eq (t : Fin cfg2.N) : in2_3 V d t = V d (Proc.devRef .tc main_v7) := by
  funext y
  refine congrArg (V d (Proc.devRef .tc main_v7)) (?_ : (win2_3.blk t).view.emb y = y)
  blk_ext [index2_3]

/-- The second call leaves its sum in its result array. -/
theorem sum_final : (dat2 V d).arrAt 4 cfg2.N = k2_pay1 (k2_pay2 (V d (Proc.devRef .tc main_v4)) (V d (Proc.devRef .tc main_v5))
    (V d (Proc.devRef .tc main_v6)) (V d (Proc.devRef .tc main_v7))) := by
  refine (dat2 V d).arrAt_eq_of_covers 4 _ (by decide +kernel) fun t hf y => ?_
  blk_simp
  rw [after2_4, in2_0_eq, in2_1_eq, in2_2_eq, in2_3_eq]
  refine congrArg (k2_pay1 (k2_pay2 _ _ _ _)) ?_
  blk_ext [index2_4]

end Call

/-! ## The arrays from the launch to the end -/

section Chain
variable (m : (ℓ : Loc nD τ sig) → Buf (Elt Ideal) ℓ) (d : Dev nD)

/-- The first call finds the targets with a unit axis. -/
theorem V1_v0 : V1 m d (Proc.devRef .tc main_v0)
    = shapeCast S4x1x4096 (m ((d : Thread nD τ).loc main_arg1) : IVec S4x4096 32) shapeCasts_S4x4096_S4x1x4096 := by
  unfold V1 ops1
  rw [after_cons, after_cons, after_nil, reshape_result_ne' (h := by decide), reshape_result']
  rfl

/-- The second call finds the first call's first result, flattened. -/
theorem V4_v4 : V4 m d (Proc.devRef .tc main_v4)
    = shapeCast S1x16384 (V3 m d (Proc.devRef .tc main_v3_0) : FVec Ideal S4x1x4096 .f32) shapeCasts_S4x1x4096_S1x16384 := by
  unfold V4 ops2
  rw [after_cons, after_cons, after_cons, after_cons, after_nil, reshape_result_ne' (h := by decide), reshape_result_ne' (h := by decide),
    reshape_result_ne' (h := by decide), reshape_result']
  rfl

/-- The second call finds the first call's second result, flattened. -/
theorem V4_v5 : V4 m d (Proc.devRef .tc main_v5)
    = shapeCast S1x16384 (V3 m d (Proc.devRef .tc main_v3_1) : FVec Ideal S4x1x4096 .f32) shapeCasts_S4x1x4096_S1x16384 := by
  unfold V4 ops2
  rw [after_cons, after_cons, after_cons, after_cons, after_nil, reshape_result_ne' (h := by decide), reshape_result_ne' (h := by decide),
    reshape_result', reshape_result_ne' (h := by decide)]
  rfl

/-- The second call finds the gathered weights, given a unit axis. -/
theorem V4_v6 : V4 m d (Proc.devRef .tc main_v6)
    = shapeCast S1x16384 (V3 m d (Proc.devRef .tc main_v2) : FVec Ideal S16384 .f32) shapeCasts_S16384_S1x16384 := by
  unfold V4 ops2
  rw [after_cons, after_cons, after_cons, after_cons, after_nil, reshape_result_ne' (h := by decide), reshape_result',
    reshape_result_ne' (h := by decide), reshape_result_ne' (h := by decide)]
  rfl

/-- The second call finds the loss bins, given a unit axis. -/
theorem V4_v7 : V4 m d (Proc.devRef .tc main_v7)
    = shapeCast S10x1 (V3 m d (Proc.devRef .tc main_arg3) : FVec Ideal S10 .f32) shapeCasts_S10_S10x1 := by
  unfold V4 ops2
  rw [after_cons, after_cons, after_cons, after_cons, after_nil, reshape_result', reshape_result_ne' (h := by decide),
    reshape_result_ne' (h := by decide), reshape_result_ne' (h := by decide)]
  rfl

/-- The result is the second call's sum divided by the number of tokens. -/
theorem V6_v10 : V6 m d (Proc.devRef .tc main_v10)
    = Host.divf (shapeCast S_ (V5 m d (Proc.devRef .tc main_v8) : FVec Ideal S1x1 .f32) shapeCasts_S1x1_S_) (constant (F := Ideal) S_ .f32 0x46800000#32) := by
  unfold V6 ops3
  rw [after_cons, after_cons, after_cons, after_nil, binary_result', nullary_result', nullary_result_ne' (h := by decide), reshape_result']
  rfl

/-- The logits at launch. -/
abbrev xA : FVec Ideal S4x1024x4096 .f32 := m ((d : Thread nD τ).loc main_arg0)
/-- The targets at launch. -/
abbrev gA : IVec S4x4096 32 := m ((d : Thread nD τ).loc main_arg1)
/-- The class weights at launch. -/
abbrev cA : FVec Ideal S1024 .f32 := m ((d : Thread nD τ).loc main_arg2)
/-- The loss bins at launch. -/
abbrev bA : FVec Ideal S10 .f32 := m ((d : Thread nD τ).loc main_arg3)

/-- The first call finds the logits as launched. -/
theorem lg_launch : lgA (V2 m) d = xA m d := (V2_of_ne m d (b := main_arg0) (by decide)).trans (V1_keep m d (by decide) (by decide))

/-- The place of a token in the flattened arrays. -/
def fl (b : Fin 4) (t : Fin 4096) : Fin 16384 := ⟨b.val * 4096 + t.val, by omega⟩

/-- The targets with a unit axis, at a token. -/
theorem rows_at (g : IVec S4x4096 32) (b : Fin 4) (t : Fin 4096) :
    shapeCast S4x1x4096 g shapeCasts_S4x4096_S4x1x4096 (ix3 b 0 t) = g (ix2 b t) :=
  shapeCast_apply _ _ _ _ (by rw [Shape.rowMajor_val_three, Shape.rowMajor_val_two]; simp)

/-- The flattened targets, at a token. -/
theorem flat_at (g : IVec S4x4096 32) (b : Fin 4) (t : Fin 4096) :
    shapeCast S16384 g shapeCasts_S4x4096_S16384 (ix1 (fl b t)) = g (ix2 b t) :=
  shapeCast_apply _ _ _ _ (by rw [Shape.rowMajor_val_one, Shape.rowMajor_val_two]; simp [fl])

/-- The first call finds a token's target as launched. -/
theorem tg_launch (b : Fin 4) (t : Fin 4096) : tgA (V2 m) d (ix3 b 0 t) = gA m d (ix2 b t) := by
  refine (congrFun ((V2_of_ne m d (b := main_v0) (by decide)).trans (V1_v0 m d)) _).trans ?_
  exact rows_at _ b t

/-- The second call reads a token's logarithm of the sum. -/
theorem v4_at (b : Fin 4) (t : Fin 4096) :
    (V4 m d (Proc.devRef .tc main_v4) : FVec Ideal S1x16384 .f32) (ix2 0 (fl b t)) = Token.kLse (fun c => xA m d (ix3 b c t)) := by
  rw [V4_v4]
  refine (shapeCast_apply _ _ _ (ix3 b 0 t) (by rw [Shape.rowMajor_val_three, Shape.rowMajor_val_two]; simp [fl])).trans ?_
  refine (congrFun ((V3_arr m d 2).trans (lse_final (V2 m) d)) (ix3 b 0 t)).trans ?_
  rw [lg_launch]
  rfl

/-- The second call reads the logit of a token's target. -/
theorem v5_at (b : Fin 4) (t : Fin 4096) :
    (V4 m d (Proc.devRef .tc main_v5) : FVec Ideal S1x16384 .f32) (ix2 0 (fl b t))
      = Token.kAt (fun c => xA m d (ix3 b c t)) (gA m d (ix2 b t)) := by
  rw [V4_v5]
  refine (shapeCast_apply _ _ _ (ix3 b 0 t) (by rw [Shape.rowMajor_val_three, Shape.rowMajor_val_two]; simp [fl])).trans ?_
  refine (congrFun ((V3_arr m d 3).trans (at_final (V2 m) d)) (ix3 b 0 t)).trans ?_
  rw [lg_launch]
  exact congrArg (Token.kAt _) (tg_launch m d b t)

/-- The second call reads the class weight of a token's target. -/
theorem v6_at (b : Fin 4) (t : Fin 4096) (h : (gA m d (ix2 b t)).toNat < 1024) :
    (V4 m d (Proc.devRef .tc main_v6) : FVec Ideal S1x16384 .f32) (ix2 0 (fl b t)) = cA m d (ix1 ⟨(gA m d (ix2 b t)).toNat, h⟩) := by
  rw [V4_v6]
  refine (shapeCast_apply _ _ _ (ix1 (fl b t)) (by rw [Shape.rowMajor_val_one, Shape.rowMajor_val_two]; simp)).trans ?_
  refine (congrFun ((V3_keep m d (b := main_v2) (by decide)).trans (V2_v2 m d)) (ix1 (fl b t))).trans ?_
  have e : xiV m d (ix1 (fl b t)) = gA m d (ix2 b t) := by
    rw [xiV_eq]
    exact flat_at _ b t
  show xtV m d (tabIx (xiV m d (ix1 (fl b t))).toNat) = _
  rw [e]
  refine (congrFun (V1_keep m d (b := main_arg2) (by decide) (by decide)) _).trans (congrArg (cA m d) ?_)
  funext a
  match a with
  | ⟨0, _⟩ => exact Fin.ext (Nat.mod_eq_of_lt h)

/-- The second call reads the loss bins. -/
theorem v7_at (k : Fin 10) : (V4 m d (Proc.devRef .tc main_v7) : FVec Ideal S10x1 .f32) (ix2 k 0) = bA m d (ix1 k) := by
  rw [V4_v7]
  refine (shapeCast_apply _ _ _ (ix1 k) (by rw [Shape.rowMajor_val_one, Shape.rowMajor_val_two]; simp)).trans ?_
  exact congrFun ((V3_keep m d (b := main_arg3) (by decide)).trans
    ((V2_of_ne m d (b := main_arg3) (by decide)).trans (V1_keep m d (by decide) (by decide)))) _

/-- A sum over the flattened tokens is the sum over the batch of the sums over the sequence. -/
theorem sum_fl (f : Fin 16384 → EReal) : ∑ j, f j = ∑ b : Fin 4, ∑ t : Fin 4096, f (fl b t) := by
  rw [← Fintype.sum_prod_type' (f := fun b t => f (fl b t))]
  refine (Fintype.sum_equiv (finProdFinEquiv (m := 4) (n := 4096)) _ _ fun x => congrArg f (Fin.ext ?_)).symm
  show x.1.val * 4096 + x.2.val = (x.2.val + 4096 * x.1.val)
  omega

/-- THE KERNEL'S LOSS: the tokens' losses summed and divided by their number. -/
theorem loss_apply (h : ∀ i, (gA m d i).toNat < 1024) (j : S_.Idx) :
    (V6 m d (Proc.devRef .tc main_v10) : FVec Ideal S_ .f32) j
      = Ideal.div (∑ b : Fin 4, ∑ t : Fin 4096, Token.kComb (Token.kLse (fun c => xA m d (ix3 b c t)))
          (Token.kAt (fun c => xA m d (ix3 b c t)) (gA m d (ix2 b t))) (cA m d (ix1 ⟨(gA m d (ix2 b t)).toNat, h _⟩)) (fun k => bA m d (ix1 k)))
        (Ideal.ofBits .f32 0x46800000#32) := by
  rw [V6_v10, hostDivf_apply, constant_apply]
  refine congrArg (fun y => Ideal.div y _) ?_
  refine (shapeCast_apply _ _ _ (ix2 0 0) (by rw [Shape.rowMajor_val_two]; rfl)).trans ?_
  refine (congrFun ((V5_arr m d 4).trans (sum_final (V4 m) d)) (ix2 0 0)).trans ?_
  unfold k2_pay1
  refine (shapeCast_apply _ _ _ (ix1 0) (by rw [Shape.rowMajor_val_one, Shape.rowMajor_val_two]; simp)).trans ?_
  refine (comb_apply _ _ _ _).trans ((sum_fl _).trans ?_)
  refine Finset.sum_congr rfl fun b _ => Finset.sum_congr rfl fun t _ => ?_
  beta_reduce
  rw [v4_at, v5_at, v6_at m d b t (h _)]
  exact congrArg (Token.kComb _ _ _) (funext fun k => v7_at m d k)

end Chain

end Cert.Proof.KernelValue

end
-- ==== Proof.ReferenceValue.lean ====
/-
  The reference's result: the mean over the tokens of the per-token loss, read off the reference's run operation by
  operation. Every target is taken to be a class number, which makes the gather's bounds mask true.
-/
module

public import proofs.«01_k».proof.Proof.Gen.ReferenceIdeal.Run
public import proofs.«01_k».proof.Proof.TokenLoss
public import Idealize.ShloMosaic.Lib.ReduceAll
public import Idealize.ShloMosaic.Lib.Pipeline.Value

@[expose] public section

noncomputable section

open scoped BigOperators

namespace Cert.Proof.RefValue

open Cert.ReferenceIdeal Cert.ReferenceIdeal.Gen Idealize.ShloMosaic Idealize.ShloMosaic.ValueIdx
open Cert.Proof

/-! ## The stages of the program -/

section Stages

variable (p : FVec Ideal S4x1024x4096 .f32) (tg : IVec S4x4096 32) (ce : FVec Ideal S1024 .f32) (lb : FVec Ideal S10 .f32)

/-- An array over the tokens repeated down the classes. -/
def down (x : FVec Ideal S4x4096 .f32) : FVec Ideal S4x1024x4096 .f32 :=
  broadcastInDim S4x1024x4096 ![0, 1, 2] bcast_S4x1x4096_S4x1024x4096_0_1_2 (broadcastInDim S4x1x4096 ![0, 2] bcast_S4x4096_S4x1x4096_0_2 x)

/-- The largest logit of every token. -/
def sMax : FVec Ideal S4x4096 .f32 :=
  maximumf (broadcastInDim S4x4096 ![] bcast_S_S4x4096 (constant S_ .f32 0xFF800000#32)) (Host.reduce FloatOps.maximumf p (constant S_ .f32 0xFF800000#32) reducesTo_S4x1024x4096_S4x4096_d1 h_S_)

/-- The logits, the largest subtracted. -/
def sShift : FVec Ideal S4x1024x4096 .f32 := subf p (down (sMax p))

/-- The sum of the exponentials. -/
def sSum : FVec Ideal S4x4096 .f32 :=
  Host.reduceAdd (Host.exp (sShift p)) (constant S_ .f32 0x00000000#32) reducesTo_S4x1024x4096_S4x4096_d1 h_S_

/-- The log-probabilities. -/
def sLog : FVec Ideal S4x1024x4096 .f32 :=
  subf (sShift p) (broadcastInDim S4x1024x4096 ![0, 1, 2] bcast_S4x1x4096_S4x1024x4096_0_1_2 (Host.log (broadcastInDim S4x1x4096 ![0, 2] bcast_S4x4096_S4x1x4096_0_2 (sSum p))))

/-- The probabilities. -/
def sProb : FVec Ideal S4x1024x4096 .f32 := Host.divf (Host.exp (sShift p)) (down (sSum p))

/-- The targets with their unit axis. -/
def sTgt : IVec S4x1x4096 32 := broadcastInDim S4x1x4096 ![0, 2] bcast_S4x4096_S4x1x4096_0_2 tg

/-- The indices of the gather along the classes. -/
def sIdx : IVec S4x1x4096x1 32 :=
  shapeCast _ (select (cmpi .slt (sTgt tg) (broadcastInDim S4x1x4096 ![] bcast_S_S4x1x4096 (constantI S_ 32 0#32))) (addi (sTgt tg) (broadcastInDim S4x1x4096 ![] bcast_S_S4x1x4096 (constantI S_ 32 1024#32))) (sTgt tg)) shapeCasts_S4x1x4096_S4x1x4096x1

/-- The gather's bounds mask before its reduction. -/
def sIn : IVec S4x1x4096x1 1 :=
  andi (cmpi .sge (sIdx tg) (broadcastInDim S4x1x4096x1 ![] bcast_S_S4x1x4096x1 (constantI S_ 32 0#32))) (cmpi .sle (sIdx tg) (broadcastInDim S4x1x4096x1 ![0, 1, 2, 3] bcast_S1x1x1x1_S4x1x4096x1_0_1_2_3 (broadcastInDim S1x1x1x1 ![3] bcast_S1_S1x1x1x1_3 (constantI S1 32 1023#32))))

/-- The log-probability of the target. -/
def sPick : FVec Ideal S4x1x4096 .f32 :=
  select (Host.reduce IntOp.andi (sIn tg) (constantI S_ 1 1#1) reducesTo_S4x1x4096x1_S4x1x4096_d3 h_S_) (Host.gather gather_S4x1024x4096_S4x1x4096x1_S4x1x4096_n_1_02_02_1_3_111 (sLog p) (sIdx tg)) (broadcastInDim S4x1x4096 ![] bcast_S_S4x1x4096 (constant S_ .f32 0x7FC00000#32))

/-- The one-hot targets. -/
def sHot : FVec Ideal S4x1024x4096 .f32 :=
  transpose S4x1024x4096 [0, 2, 1] (uitofp .f32 (cmpi .eq (broadcastInDim S4x4096x1024 ![0, 1, 2] bcast_S4x4096x1_S4x4096x1024_0_1_2 (broadcastInDim S4x4096x1 ![0, 1] bcast_S4x4096_S4x4096x1_0_1 tg)) (broadcastInDim S4x4096x1024 ![0, 1, 2] bcast_S1x1x1024_S4x4096x1024_0_1_2 (iotaInDim S1x1x1024 32 2)))) transposes_S4x4096x1024_S4x1024x4096_0_2_1

/-- The distance of the probabilities from the one-hot targets. -/
def sDist : FVec Ideal S4x4096 .f32 :=
  Host.reduceAdd (Host.absf (subf (sProb p) (sHot tg))) (constant S_ .f32 0x00000000#32) reducesTo_S4x1024x4096_S4x4096_d1 h_S_

/-- The bin of every token. -/
def sBin : IVec S4x4096 32 :=
  fptosi 32 (Host.floor (mulf (Host.divf (minimumf (broadcastInDim S4x4096 ![] bcast_S_S4x4096 (id (constant S_ .f32 0x3FFFFFF8#32))) (maximumf (broadcastInDim S4x4096 ![] bcast_S_S4x4096 (id (constant S_ .f32 0x358637BD#32))) (sDist p tg))) (broadcastInDim S4x4096 ![] bcast_S_S4x4096 (constant S_ .f32 0x40000000#32))) (broadcastInDim S4x4096 ![] bcast_S_S4x4096 (constant S_ .f32 0x41200000#32))))

/-- The weighted geometric mean of the probabilities and the targets. -/
def sGeo : FVec Ideal S4x4096 .f32 :=
  Host.reduceAdd (mulf (broadcastInDim S4x1024x4096 ![0, 1, 2] bcast_S1x1024x1_S4x1024x4096_0_1_2 (broadcastInDim S1x1024x1 ![1] bcast_S1024_S1x1024x1_1 ce)) (mulf (Host.sqrt (sProb p)) (sHot tg))) (constant S_ .f32 0x00000000#32) reducesTo_S4x1024x4096_S4x4096_d1 h_S_

/-- The loss bin of every token. -/
def sBinLoss : FVec Ideal S4x4096 .f32 :=
  Host.gather gather_S10_S4x4096x1_S4x4096_n_0_n_n_0_2_1 lb (broadcastInDim S4x4096x1 ![0, 1] bcast_S4x4096_S4x4096x1_0_1 (select (cmpi .slt (sBin p tg) (broadcastInDim S4x4096 ![] bcast_S_S4x4096 (constantI S_ 32 0#32))) (addi (sBin p tg) (broadcastInDim S4x4096 ![] bcast_S_S4x4096 (constantI S_ 32 10#32))) (sBin p tg)))

/-- The loss of every token. -/
def sLoss : FVec Ideal S4x4096 .f32 :=
  Host.divf (Host.negf (shapeCast _ (sPick p tg) shapeCasts_S4x1x4096_S4x4096)) (Host.sqrt (addf (mulf (sGeo p tg ce) (sBinLoss p tg lb)) (broadcastInDim S4x4096 ![] bcast_S_S4x4096 (constant S_ .f32 0x2EDBE6FF#32))))

/-- The mean loss. -/
def sOut : FVec Ideal S_ .f32 :=
  Host.divf (Host.reduceAdd (sLoss p tg ce lb) (constant S_ .f32 0x00000000#32) reducesTo_S4x4096_S_d0_1 h_S_) (constant S_ .f32 0x46800000#32)

end Stages

set_option maxRecDepth 8192 in
/-- The reference's result is the last stage. -/
theorem res_eq (m : (ℓ : Loc nD τ sig) → Buf (Elt Ideal) ℓ) (c : Dev nD) :
    Cert.ReferenceIdeal.Value.res_main_v47 (F := Ideal) m c
      = sOut (m ((c.tc : Thread nD τ).loc main_arg0)) (m ((c.tc : Thread nD τ).loc main_arg1)) (m ((c.tc : Thread nD τ).loc main_arg2)) (m ((c.tc : Thread nD τ).loc main_arg3)) := by
  rfl

/-! ## The stages read at an index -/

/-- A row spread down the classes, at an entry. -/
theorem down_apply (x : FVec Ideal S4x4096 .f32) (b : Fin 4) (c : Fin 1024) (t : Fin 4096) :
    down x (ix3 b c t) = x (ix2 b t) := by
  unfold down
  rw [broadcastInDim_apply _ _ _ (ix3 b c t) (ix3 b 0 t) (fun a => by match a with | ⟨0, _⟩ => rfl | ⟨1, _⟩ => rfl | ⟨2, _⟩ => rfl),
    broadcastInDim_apply _ _ _ (ix3 b 0 t) (ix2 b t) (fun a => by match a with | ⟨0, _⟩ => rfl | ⟨1, _⟩ => rfl)]

/-- The reduction over the classes. -/
theorem red : S4x1024x4096.Reduces [1] S4x4096 := by decide

/-- The entries that the reduction over the classes gathers. -/
theorem lift_eq (b : Fin 4) (t : Fin 4096) (c : Fin 1024) : red.lift (ix2 b t) c = ix3 b c t := by
  funext a
  match a with
  | ⟨0, _⟩ => rfl
  | ⟨1, _⟩ => rfl
  | ⟨2, _⟩ => rfl

/-- A sum down the classes, at a token. -/
theorem sum_down (x : FVec Ideal S4x1024x4096 .f32) (b : Fin 4) (t : Fin 4096) :
    Host.reduceAdd x (constant S_ .f32 0x00000000#32) reducesTo_S4x1024x4096_S4x4096_d1 h_S_ (ix2 b t)
      = Ideal.ofBits .f32 0x00000000#32 + ∑ c : Fin 1024, x (ix3 b c t) := by
  rw [hostReduceAdd_apply, Ideal.hostReduceAdd_single _ red, constant_apply]
  exact congrArg (_ + ·) (Finset.sum_congr rfl fun c _ => congrArg x (lift_eq b t c))

section Read

variable (p : FVec Ideal S4x1024x4096 .f32) (tg : IVec S4x4096 32) (ce : FVec Ideal S1024 .f32) (lb : FVec Ideal S10 .f32)
variable (b : Fin 4) (t : Fin 4096)

/-- A token's logits. -/
abbrev col : Fin 1024 → EReal := fun c => p (ix3 b c t)

/-- The reference's largest logit of a token. -/
theorem sMax_apply : sMax p (ix2 b t) = Token.rMax (col p b t) := by
  unfold sMax Token.rMax
  rw [maximumf_apply, broadcastInDim_scalar_apply, constant_apply, Host.reduce_eq_fold_single _ _ _ _ red, constant_apply]
  refine congrArg (max _) ?_
  exact congrArg (Finset.fold max _ · Finset.univ) (funext fun c => congrArg p (lift_eq b t c))

/-- The reference's logit, the largest subtracted. -/
theorem sShift_apply (c : Fin 1024) : sShift p (ix3 b c t) = col p b t c - Token.rMax (col p b t) := by
  unfold sShift
  rw [subf_apply, down_apply, sMax_apply]

/-- The reference's sum of exponentials of a token. -/
theorem sSum_apply : sSum p (ix2 b t) = Token.rSum (col p b t) := by
  unfold sSum Token.rSum
  rw [sum_down]
  exact congrArg (_ + ·) (Finset.sum_congr rfl fun c _ => congrArg Ideal.exp (sShift_apply p b t c))

/-- The reference's log-probability of a class. -/
theorem sLog_apply (c : Fin 1024) : sLog p (ix3 b c t) = Token.rLog (col p b t) c := by
  unfold sLog Token.rLog
  rw [subf_apply, sShift_apply,
    broadcastInDim_apply _ _ _ (ix3 b c t) (ix3 b 0 t) (fun a => by match a with | ⟨0, _⟩ => rfl | ⟨1, _⟩ => rfl | ⟨2, _⟩ => rfl)]
  refine congrArg (_ - ·) (congrArg Ideal.log ?_)
  rw [broadcastInDim_apply _ _ _ (ix3 b 0 t) (ix2 b t) (fun a => by match a with | ⟨0, _⟩ => rfl | ⟨1, _⟩ => rfl), sSum_apply]

/-- The reference's probability of a class. -/
theorem sProb_apply (c : Fin 1024) : sProb p (ix3 b c t) = Token.rProb (col p b t) c := by
  unfold sProb Token.rProb
  rw [hostDivf_apply, down_apply, sSum_apply]
  exact congrArg (fun y => Ideal.div (Ideal.exp y) _) (sShift_apply p b t c)

/-- The reference's one-hot target. -/
theorem sHot_apply (c : Fin 1024) : sHot tg (ix3 b c t) = Token.rHot (tg (ix2 b t)) c := by
  unfold sHot Token.rHot
  rw [transpose_apply _ _ _ (ix3 b c t) (ix3 b t c) (fun a => by match a with | ⟨0, _⟩ => rfl | ⟨1, _⟩ => rfl | ⟨2, _⟩ => rfl)]
  refine congrArg (fun v : BitVec 1 => (((v.toNat : ℕ) : ℝ) : EReal)) ?_
  refine congrArg₂ (IntOp.cmpi .eq) ?_ ?_
  · rw [broadcastInDim_apply _ _ _ (ix3 b t c) (ix3 b t 0) (fun a => by match a with | ⟨0, _⟩ => rfl | ⟨1, _⟩ => rfl | ⟨2, _⟩ => rfl),
      broadcastInDim_apply _ _ _ (ix3 b t 0) (ix2 b t) (fun a => by match a with | ⟨0, _⟩ => rfl | ⟨1, _⟩ => rfl)]
  · rw [broadcastInDim_apply _ _ _ (ix3 b t c) (ix3 0 0 c) (fun a => by match a with | ⟨0, _⟩ => rfl | ⟨1, _⟩ => rfl | ⟨2, _⟩ => rfl),
      iotaInDim_apply]

/-- The reference's distance of a token's probabilities from its one-hot target. -/
theorem sDist_apply : sDist p tg (ix2 b t) = Token.rDist (col p b t) (tg (ix2 b t)) := by
  unfold sDist Token.rDist
  rw [sum_down]
  refine congrArg (_ + ·) (Finset.sum_congr rfl fun c _ => ?_)
  have e : subf (sProb p) (sHot tg) (ix3 b c t) = Token.rProb (col p b t) c - Token.rHot (tg (ix2 b t)) c := by
    rw [subf_apply, sProb_apply, sHot_apply]
  exact congrArg (fun y : EReal => max y (-y)) e

/-- The reference's bin of a token. -/
theorem sBin_apply : sBin p tg (ix2 b t) = Token.rBin (col p b t) (tg (ix2 b t)) := by
  unfold sBin Token.rBin
  rw [← sDist_apply]
  rfl

/-- The reference's weighted root of a token's probability. -/
theorem sGeo_apply : sGeo p tg ce (ix2 b t) = Token.rGeo (col p b t) (tg (ix2 b t)) (fun c => ce (ix1 c)) := by
  unfold sGeo Token.rGeo
  rw [sum_down]
  refine congrArg (_ + ·) (Finset.sum_congr rfl fun c _ => ?_)
  rw [mulf_apply, mulf_apply, sHot_apply,
    broadcastInDim_apply _ _ _ (ix3 b c t) (ix3 0 c 0) (fun a => by match a with | ⟨0, _⟩ => rfl | ⟨1, _⟩ => rfl | ⟨2, _⟩ => rfl),
    broadcastInDim_apply _ _ _ (ix3 0 c 0) (ix1 c) (fun a => by match a with | ⟨0, _⟩ => rfl)]
  exact congrArg (fun y => _ * (Ideal.sqrt y * _)) (sProb_apply p b t c)

/-- The reference's loss bin of a token. -/
theorem sBinLoss_apply : sBinLoss p tg lb (ix2 b t)
    = lb (ix1 ⟨min (Token.wrap 10 (Token.rBin (col p b t) (tg (ix2 b t)))).toInt.toNat 9, by omega⟩) := by
  unfold sBinLoss
  refine (gather_take_apply (by decide) _ lb _ (ix2 b t)).trans ?_
  refine congrArg lb (congrArg ix1 (Fin.ext ?_))
  refine congrArg (fun v : BitVec 32 => min v.toInt.toNat 9) ?_
  refine (broadcastInDim_apply _ _ _ (takeIdx (ix2 b t)) (ix2 b t) (fun a => by match a with | ⟨0, _⟩ => rfl | ⟨1, _⟩ => rfl)).trans ?_
  exact congrArg (Token.wrap 10) (sBin_apply p tg b t)

/-! ### The gather along the classes, the targets class numbers -/

/-- A class number is not negative, so it is not read from the end. -/
theorem wrap_word (v : BitVec 32) (h : v.toNat < 1024) : Token.wrap 1024 v = v := by
  have e : IntOp.cmpi .slt v 0#32 = 0#1 := by
    have z (q : Bool) : (BitVec.ofBool q = 0#1) ↔ q = false := by cases q <;> decide
    simp only [IntOp.cmpi, z, BitVec.slt_eq_decide, decide_eq_false_iff_not, BitVec.toInt_eq_toNat_cond, BitVec.toNat_ofNat,
      Nat.reducePow, Nat.reduceMod]
    omega
  unfold Token.wrap
  rw [e, select_zero]

/-- A class number passes the bounds test. -/
theorem word_in (v : BitVec 32) (h : v.toNat < 1024) : IntOp.andi (IntOp.cmpi .sge v 0#32) (IntOp.cmpi .sle v 1023#32) = 1#1 := by
  have one (q : Bool) : (BitVec.ofBool q = 1#1) ↔ q = true := by cases q <;> decide
  have e0 : IntOp.cmpi .sge v 0#32 = 1#1 := by
    simp only [IntOp.cmpi, one, BitVec.sle_eq_decide, decide_eq_true_eq, BitVec.toInt_eq_toNat_cond, BitVec.toNat_ofNat,
      Nat.reducePow, Nat.reduceMod]
    omega
  have e1 : IntOp.cmpi .sle v 1023#32 = 1#1 := by
    simp only [IntOp.cmpi, one, BitVec.sle_eq_decide, decide_eq_true_eq, BitVec.toInt_eq_toNat_cond, BitVec.toNat_ofNat,
      Nat.reducePow, Nat.reduceMod]
    omega
  rw [e0, e1]
  decide

/-- A class number read signed and clamped to the classes is itself. -/
theorem clamp_word (v : BitVec 32) (h : v.toNat < 1024) : min v.toInt.toNat (1024 - 1) = v.toNat := by
  rw [BitVec.toInt_eq_toNat_cond]
  omega

/-- The targets with a unit axis, at a token. -/
theorem sTgt_apply : sTgt tg (ix3 b 0 t) = tg (ix2 b t) := by
  unfold sTgt
  rw [broadcastInDim_apply _ _ _ (ix3 b 0 t) (ix2 b t) (fun a => by match a with | ⟨0, _⟩ => rfl | ⟨1, _⟩ => rfl)]

/-- The gather's index of a token is its target. -/
theorem sIdx_apply (h : (tg (ix2 b t)).toNat < 1024) : sIdx tg (ix4 b 0 t 0) = tg (ix2 b t) := by
  unfold sIdx
  rw [shapeCast_apply _ _ (ix4 b 0 t 0) (ix3 b 0 t) (by
    rw [Shape.rowMajor_val_three, Shape.rowMajor_val_four]; simp)]
  exact (congrArg (Token.wrap 1024) (sTgt_apply tg b t)).trans (wrap_word _ h)

/-- Every index of the gather's index array is a token's. -/
theorem idx_eq (i : S4x1x4096x1.Idx) : i = ix4 (n0 := 4) (n1 := 1) (n2 := 4096) (n3 := 1) (i 0) 0 (i 2) 0 := by
  funext a
  match a with
  | ⟨0, _⟩ => rfl
  | ⟨1, _⟩ => exact Subsingleton.elim (α := Fin 1) _ _
  | ⟨2, _⟩ => rfl
  | ⟨3, _⟩ => exact Subsingleton.elim (α := Fin 1) _ _

/-- Where the targets are class numbers, no gathered entry is masked. -/
theorem sIn_apply (h : ∀ i, (tg i).toNat < 1024) (i : S4x1x4096x1.Idx) : sIn tg i = 1#1 := by
  rw [idx_eq i]
  have e := sIdx_apply tg (i 0) (i 2) (h _)
  refine Eq.trans ?_ (word_in (tg (ix2 (i 0) (i 2))) (h _))
  rw [← e]
  rfl

/-- The gather along the classes at a token: the class its index names, clamped. -/
theorem gather_class (x : FVec Ideal S4x1024x4096 .f32) (idx : IVec S4x1x4096x1 32) :
    Host.gather gather_S4x1024x4096_S4x1x4096x1_S4x1x4096_n_1_02_02_1_3_111 x idx (ix3 b 0 t)
      = x (ix3 b ⟨min (idx (ix4 b 0 t 0)).toInt.toNat (1024 - 1), by omega⟩ t) := by
  unfold Host.gather
  refine congrArg x (funext fun a => Fin.ext ?_)
  generalize hD : gather_S4x1024x4096_S4x1x4096x1_S4x1x4096_n_1_02_02_1_3_111 = D
  show D.start (ix3 b 0 t) idx a + D.batchCoord (ix3 b 0 t) a + D.offCoord (ix3 b 0 t) a = _
  have hk (a : Fin 3) : a ∉ D.sKept := by
    subst hD
    intro hm
    have := (GatherDims.mem_sKept _ _).mp hm
    revert this
    revert a
    show ∀ a : Fin 3, a ∈ _ → a ∉ [(1 : Fin 3)] ∧ a ∉ [(0 : Fin 3), 2] → False
    intro a _
    fin_cases a <;> simp
  rw [GatherDims.offCoord_eq_zero _ _ _ (hk a), Nat.add_zero]
  subst hD
  match a with
  | ⟨1, _⟩ =>
    rw [GatherDims.batchCoord_eq_zero _ _ _ (show (1 : Fin 3) ∉ [(0 : Fin 3), 2] by decide), Nat.add_zero]
    unfold GatherDims.start
    refine (dif_pos (show (1 : Fin 3) ∈ [(1 : Fin 3)] from List.mem_singleton.mpr rfl)).trans ?_
    refine congrArg (fun k => min (idx k).toInt.toNat (1024 - 1)) (funext fun e => Fin.ext ?_)
    match e with
    | ⟨0, _⟩ => rfl
    | ⟨1, _⟩ => rfl
    | ⟨2, _⟩ => rfl
    | ⟨3, _⟩ => rfl
  | ⟨0, _⟩ =>
    rw [GatherDims.start_batching _ _ _ _ (show (0 : Fin 3) ∈ [(0 : Fin 3), 2] by decide), Nat.zero_add]
    unfold GatherDims.batchCoord
    exact (dif_pos (show (0 : Fin 3) ∈ [(0 : Fin 3), 2] by decide)).trans rfl
  | ⟨2, _⟩ =>
    rw [GatherDims.start_batching _ _ _ _ (show (2 : Fin 3) ∈ [(0 : Fin 3), 2] by decide), Nat.zero_add]
    unfold GatherDims.batchCoord
    exact (dif_pos (show (2 : Fin 3) ∈ [(0 : Fin 3), 2] by decide)).trans rfl

/-- The log-probability that the reference gathers for a token is its target's. -/
theorem sPick_apply (h : ∀ i, (tg i).toNat < 1024) :
    sPick p tg (ix3 b 0 t) = Token.rLog (col p b t) ⟨(tg (ix2 b t)).toNat, h _⟩ := by
  unfold sPick
  rw [select_apply, Host.reduce_andi_one _ _ _ _ _ rfl (sIn_apply tg h), select_one, gather_class, sLog_apply]
  refine congrArg (Token.rLog _) (Fin.ext ?_)
  show min (sIdx tg (ix4 b 0 t 0)).toInt.toNat (1024 - 1) = _
  rw [sIdx_apply tg b t (h _), clamp_word _ (h _)]

/-! ### The loss and its mean -/

/-- The reference's loss of a token. -/
theorem sLoss_apply (h : ∀ i, (tg i).toNat < 1024) : sLoss p tg ce lb (ix2 b t)
    = Token.rComb (Token.rLog (col p b t) ⟨(tg (ix2 b t)).toNat, h _⟩) (col p b t) (tg (ix2 b t)) (fun c => ce (ix1 c)) (fun k => lb (ix1 k)) := by
  unfold sLoss Token.rComb
  rw [hostDivf_apply]
  refine congrArg₂ Ideal.div ?_ (congrArg Ideal.sqrt ?_)
  · refine congrArg (fun y : EReal => -y) ?_
    rw [shapeCast_apply _ _ (ix2 b t) (ix3 b 0 t) (by
      rw [Shape.rowMajor_val_three, Shape.rowMajor_val_two]; simp), sPick_apply p tg b t h]
  · rw [addf_apply, mulf_apply, sGeo_apply, sBinLoss_apply, broadcastInDim_scalar_apply, constant_apply]

/-- The reference's result: the sum over the tokens of the loss, divided by their number. -/
theorem sOut_apply (h : ∀ i, (tg i).toNat < 1024) (j : S_.Idx) : sOut p tg ce lb j
    = Ideal.div (Ideal.ofBits .f32 0x00000000#32 + ∑ b : Fin 4, ∑ t : Fin 4096,
        Token.rComb (Token.rLog (col p b t) ⟨(tg (ix2 b t)).toNat, h _⟩) (col p b t) (tg (ix2 b t)) (fun c => ce (ix1 c)) (fun k => lb (ix1 k)))
      (Ideal.ofBits .f32 0x46800000#32) := by
  unfold sOut
  rw [hostDivf_apply, constant_apply, hostReduceAdd_apply, constant_apply, Ideal.hostReduceAdd_total _ (fun b => b.elim0), sum_idx2]
  refine congrArg (fun y => Ideal.div (_ + y) _) ?_
  exact Finset.sum_congr rfl fun b _ => Finset.sum_congr rfl fun t _ => sLoss_apply p tg ce lb b t h

end Read

end Cert.Proof.RefValue

end
-- ==== Proof.lean ====
/-
  The certificate's claims: the launch of the printed kernel and of its idealized form ends with arguments unchanged and
  every counter at zero, the reference likewise, and the two idealized programs end with the same loss.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.Gen.Pre_in_domain
public import proofs.«01_k».proof.Proof.Gen.Pre_in_range
public import proofs.«01_k».proof.Proof.KernelEnds
public import proofs.«01_k».proof.Proof.IdealEnds
public import proofs.«01_k».proof.Proof.Range
public import proofs.«01_k».proof.Proof.Domain
public import proofs.«01_k».proof.Proof.LossValue
public import proofs.«01_k».proof.Proof.ReferenceValue
public import Idealize.ShloMosaic.Adequacy
public import Idealize.ShloMosaic.Init

@[expose] public section

noncomputable section

namespace Cert.Proof

open Idealize.ShloMosaic Idealize.SL.Sem

/-- The printed kernel runs, keeps its arguments and leaves every counter at zero. -/
theorem frame_kernel : Cert.quiescent_Kernel (hKernel := Cert.Kernel.Gen.facts) (hPre_in_range := Cert.Pre_in_range.Gen.facts) := by
  intro m g hp
  refine (θ_run (Cert.Kernel.defs (F := Bits)) _ _).mono (fun r h => ⟨fun c => (h.1 c).2, h.2⟩)
    (KernelRun.run_ends (F := Bits) m g fun c i => Domain.range_targets _ _ _ _ (hp c) i)

/-- The idealized kernel likewise. -/
theorem frame_ideal : Cert.quiescent_KernelIdeal (hKernelIdeal := Cert.KernelIdeal.Gen.facts) (hPre_in_range := Cert.Pre_in_range.Gen.facts) := by
  intro m g hp
  refine (θ_run (Cert.KernelIdeal.defs (F := Ideal)) _ _).mono (fun r h => ⟨fun c => (h.1 c).2, h.2⟩)
    (IdealRun.run_ends (F := Ideal) m g fun c i => Domain.range_targets _ _ _ _ (hp c) i)

/-- The idealized kernel likewise, from the precondition of the loss. -/
theorem frame_ideal_domain :
    Cert.quiescent_KernelIdeal_pre_in_domain (hKernelIdeal := Cert.KernelIdeal.Gen.facts) (hPre_in_domain := Cert.Pre_in_domain.Gen.facts) := by
  intro m g hp
  refine (θ_run (Cert.KernelIdeal.defs (F := Ideal)) _ _).mono (fun r h => ⟨fun c => (h.1 c).2, h.2⟩)
    (IdealRun.run_ends (F := Ideal) m g fun c i => (Domain.domain_ideal _ _ _ _ (hp c)).1 i)

/-- The idealized reference runs, keeps its arguments and leaves every counter at zero. -/
theorem frame_reference : Cert.quiescent_ReferenceIdeal (hReferenceIdeal := Cert.ReferenceIdeal.Gen.facts) :=
  fun m g _ => (θ_run (Cert.ReferenceIdeal.defs (F := Ideal)) _ _).mono
    (fun r h => ⟨fun c => (h c).2, sem_eq_zero_of_no_sems (by decide) r.2⟩) (Cert.ReferenceIdeal.Value.run (F := Ideal) m g)

/-- The idealized reference likewise, from the precondition of the loss. -/
theorem frame_reference_domain :
    Cert.quiescent_ReferenceIdeal_pre_in_domain (hReferenceIdeal := Cert.ReferenceIdeal.Gen.facts) (hPre_in_domain := Cert.Pre_in_domain.Gen.facts) :=
  fun m g _ => frame_reference m g trivial

/-- On finite logits, targets that are class numbers and weights whose products with the loss bins are at least zero, the
    reference's loss is the kernel's. -/
theorem loss_eq (m : (ℓ : Loc Cert.KernelIdeal.nD Cert.KernelIdeal.τ Cert.KernelIdeal.sig) → Buf (Elt Ideal) ℓ) (c : Dev Cert.KernelIdeal.nD)
    (hg : ∀ i, (KernelValue.gA m c i).toNat < 1024)
    (hx : ∀ i, KernelValue.xA m c i ≠ (⊤ : EReal) ∧ KernelValue.xA m c i ≠ (⊥ : EReal))
    (hp : ∀ k b, (0 : EReal) ≤ KernelValue.cA m c k * KernelValue.bA m c b) :
    RefValue.sOut (KernelValue.xA m c) (KernelValue.gA m c) (KernelValue.cA m c) (KernelValue.bA m c)
      = IdealRun.V6 m c (Proc.devRef .tc Cert.KernelIdeal.main_v10) := by
  funext j
  refine (RefValue.sOut_apply _ _ _ _ hg j).trans (Eq.trans ?_ (KernelValue.loss_apply m c hg j).symm)
  rw [Token.bits_zero, zero_add]
  refine congrArg (fun y => Ideal.div y _) ?_
  refine Finset.sum_congr rfl fun b _ => Finset.sum_congr rfl fun t _ => ?_
  have e : (fun k => KernelValue.xA m c (ValueIdx.ix3 b k t))
      = Token.up fun k => EReal.toReal (KernelValue.xA m c (ValueIdx.ix3 b k t)) :=
    funext fun k => (EReal.coe_toReal (hx _).1 (hx _).2).symm
  unfold RefValue.col
  rw [e]
  exact (Token.token_eq _ _ (hg _) (fun k => KernelValue.cA m c (ValueIdx.ix1 k)) _ fun k b => hp _ _).symm

/-- The two idealized programs end with the same loss. -/
theorem same_loss : Cert.algebraic_KernelIdeal_ReferenceIdeal_pre_in_domain (hKernelIdeal := Cert.KernelIdeal.Gen.facts)
    (hReferenceIdeal := Cert.ReferenceIdeal.Gen.facts) (hPre_in_domain := Cert.Pre_in_domain.Gen.facts) := by
  intro m g m' g' hp hm
  refine ⟨fun c => IdealRun.V6 m c (Proc.devRef .tc Cert.KernelIdeal.main_v10), ?_, ?_⟩
  · exact (θ_run (Cert.KernelIdeal.defs (F := Ideal)) _ _).mono (fun r h c => h.1 c)
      (IdealRun.run_ends (F := Ideal) m g fun c i => (Domain.domain_ideal _ _ _ _ (hp c)).1 i)
  · refine (θ_run (Cert.ReferenceIdeal.defs (F := Ideal)) _ _).mono (fun r h c => ⟨(h c).1.trans ?_, (h c).2⟩)
      (Cert.ReferenceIdeal.Value.run (F := Ideal) m' g')
    refine (RefValue.res_eq m' c).trans ?_
    obtain ⟨e0, e1, e2, e3⟩ := hm c
    obtain ⟨hg, hx, hw⟩ := Domain.domain_ideal _ _ _ _ (hp c)
    refine Eq.trans ?_ (loss_eq m c hg hx hw)
    rw [e0, e1, e2, e3]

/-- The certificate's claim. -/
theorem claim : Cert.Claim := ⟨Cert.Kernel.Gen.facts, Cert.KernelIdeal.Gen.facts, Cert.ReferenceIdeal.Gen.facts, Cert.Pre_in_range.Gen.facts,
  Cert.Pre_in_domain.Gen.facts, frame_kernel, frame_ideal, frame_ideal_domain, frame_reference, frame_reference_domain, trivial, same_loss⟩

end Cert.Proof

end
